-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x256 : Shape := ⟨2, ![1024, 256]⟩
abbrev S1024x1024 : Shape := ⟨2, ![1024, 1024]⟩
abbrev S2x128x1024 : Shape := ⟨3, ![2, 128, 1024]⟩
abbrev S6 : Shape := ⟨1, ![6]⟩
abbrev S_ : Shape := ⟨0, ![]⟩
abbrev S1 : Shape := ⟨1, ![1]⟩
abbrev S128x1024 : Shape := ⟨2, ![128, 1024]⟩
abbrev S256x256 : Shape := ⟨2, ![256, 256]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S1024x256, .bf16⟩
  | .hbm, ⟨2, _⟩ => ⟨S1024x256, .f32⟩
  | .local _ .vmem, ⟨0, _⟩ => ⟨S256x1024, .bf16⟩
  | .local _ .vmem, ⟨1, _⟩ => ⟨S1024x256, .bf16⟩
  | .local _ .vmem, ⟨2, _⟩ => ⟨S1024x256, .f32⟩
  | .local _ .vmem, ⟨3, _⟩ => ⟨S1024x1024, .bf16⟩
  | .local _ .vmem, ⟨4, _⟩ => ⟨S2x128x1024, .fp8e4m3⟩
  | .local _ .vmem, ⟨5, _⟩ => ⟨S2x128x1024, .fp8e4m3⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_off1 (d0 : Dev nD) (c0_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v41 : BitVec 32 := Scalar.muli v2 c256_i32
  let v42 : BitVec 32 := Scalar.addi v41 c0_i32_26
  let c0_i32_36 : BitVec 32 := 0#32
  ![v42.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v49 : BitVec 32 := Scalar.muli v24 c1_i32_34
  let v50 : BitVec 32 := Scalar.addi c0_i32_35 v49
  v50.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_41 : BitVec 32 := 1#32
  let v57 : BitVec 32 := Scalar.muli v13 c1_i32_41
  let v58 : BitVec 32 := Scalar.addi c0_i32_42 v57
  v58.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_48 : BitVec 32 := 1#32
  let v65 : BitVec 32 := Scalar.muli v24 c1_i32_48
  let v66 : BitVec 32 := Scalar.addi c0_i32_49 v65
  v66.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_54 : BitVec 32 := 1#32
  let v73 : BitVec 32 := Scalar.muli v13 c1_i32_54
  let v74 : BitVec 32 := Scalar.addi c0_i32_55 v73
  v74.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_66 : BitVec 32 := 256#32
  let v99 : BitVec 32 := Scalar.muli v2 c256_i32_66
  let c0_i32_67 : BitVec 32 := 0#32
  let v100 : BitVec 32 := Scalar.addi v99 c0_i32_67
  let v101 : Index := Scalar.indexCast v100
  let c0_68 : Index := 0#32
  ![v101.toNat, 0]
def k0_off3 (d0 : Dev nD) (c0_i32_70 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_69 : BitVec 32 := 256#32
  let v103 : BitVec 32 := Scalar.muli v13 c256_i32_69
  let v104 : BitVec 32 := Scalar.addi v103 c0_i32_70
  let c0_i32_75 : BitVec 32 := 0#32
  ![v104.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_78 : BitVec 32 := 256#32
  let v111 : BitVec 32 := Scalar.muli v13 c256_i32_78
  let c0_i32_79 : BitVec 32 := 0#32
  let v112 : BitVec 32 := Scalar.addi v111 c0_i32_79
  let v113 : Index := Scalar.indexCast v112
  let c0_80 : Index := 0#32
  ![v113.toNat, 0]
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_88 : BitVec 32 := 1#32
  let v119 : BitVec 32 := Scalar.muli v24 c1_i32_88
  let v120 : BitVec 32 := Scalar.addi c0_i32_89 v119
  v120.toNat
def k0_off5 (d0 : Dev nD) (c128_i32_95 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_94 : BitVec 32 := 256#32
  let v129 : BitVec 32 := Scalar.muli v24 c256_i32_94
  let v130 : BitVec 32 := Scalar.addi v129 c128_i32_95
  let c0_i32_100 : BitVec 32 := 0#32
  ![v130.toNat, 0]
def k0_off6 (d0 : Dev nD) (c1_i32_6 : BitVec 32) (c128_i32_104 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_103 : BitVec 32 := 256#32
  let v137 : BitVec 32 := Scalar.muli v24 c256_i32_103
  let v138 : BitVec 32 := Scalar.addi v137 c128_i32_104
  let v139 : Index := Scalar.indexCast v138
  let c0_105 : Index := 0#32
  ![v139.toNat, 0]
def k0_off6_at (r : Fin 3) : BitVec 32 × BitVec 32 :=
  if r.val < 1 then
    (1#32, 128#32)
  else
    if r.val < 2 then
      (2#32, 0#32)
    else
      (2#32, 128#32)
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_111 : BitVec 32 := 1#32
  let v145 : BitVec 32 := Scalar.muli v13 c1_i32_111
  let v146 : BitVec 32 := Scalar.addi c0_i32_112 v145
  v146.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_126 : BitVec 32 := 256#32
  let v163 : BitVec 32 := Scalar.muli v13 c256_i32_126
  let c0_i32_127 : BitVec 32 := 0#32
  let v164 : BitVec 32 := Scalar.addi v163 c0_i32_127
  let v165 : Index := Scalar.indexCast v164
  let c0_128 : Index := 0#32
  ![v165.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_136 : BitVec 32 := 256#32
  let v183 : BitVec 32 := Scalar.muli v13 c256_i32_136
  let c0_i32_137 : BitVec 32 := 0#32
  let v184 : BitVec 32 := Scalar.addi v183 c0_i32_137
  let v185 : Index := Scalar.indexCast v184
  let c0_138 : Index := 0#32
  ![v185.toNat, 0]
def k0_off9 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_148 : BitVec 32 := 256#32
  let v195 : BitVec 32 := Scalar.muli v24 c256_i32_148
  let c0_i32_149 : BitVec 32 := 0#32
  let v196 : BitVec 32 := Scalar.addi v195 c0_i32_149
  let v197 : Index := Scalar.indexCast v196
  let c0_150 : Index := 0#32
  ![v197.toNat, 0]
def k0_off10 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_158 : BitVec 32 := 256#32
  let v215 : BitVec 32 := Scalar.muli v24 c256_i32_158
  let c0_i32_159 : BitVec 32 := 0#32
  let v216 : BitVec 32 := Scalar.addi v215 c0_i32_159
  let v217 : Index := Scalar.indexCast v216
  let c0_160 : Index := 0#32
  ![v217.toNat, 0]
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdeal.Places.lean ====
/-
The ring of four devices and the places the kernel touches: who the neighbours are, which rows of which buffer each
transfer, load and store names, and which semaphores count them.

The gathered buffer `xg` has 1024 rows; device `d`'s block of `x` belongs in rows `256 * d` to `256 * d + 255`, moved in
two halves of 128 rows. The two narrow buffers have two slots of 128 rows each.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe

/-! ## Neighbours -/

set_option backward.proofsInPublic true in
/-- The device to the right. -/
def nxt (c : Dev nD) : Dev nD := ⟨(c.val + 1) % 4, Nat.mod_lt _ (by decide)⟩
set_option backward.proofsInPublic true in
/-- The device to the left. -/
def prv (c : Dev nD) : Dev nD := ⟨(c.val + 3) % 4, Nat.mod_lt _ (by decide)⟩
set_option backward.proofsInPublic true in
/-- The device across. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem nxt_nxt (c : Dev nD) : nxt (nxt c) = opp c := by revert c; decide
theorem prv_prv (c : Dev nD) : prv (prv c) = opp c := by revert c; decide

/-- Going right, as a permutation of the devices. -/
def right : Dev nD ≃ Dev nD := ⟨nxt, prv, prv_nxt, nxt_prv⟩
/-- Going left. -/
def left : Dev nD ≃ Dev nD := ⟨prv, nxt, nxt_prv, prv_nxt⟩

/-- Every device is this one, a neighbour, or the one across. -/
theorem dev_cases (c d : Dev nD) : d = c ∨ d = prv c ∨ d = nxt c ∨ d = opp c := by revert c d; decide

/-! ## The devices the kernel names -/

theorem dev1_eq (c : Dev nD) : (⟨k0_dev1 c, k0_dev1_lt c⟩ : Dev nD) = prv c :=
  Fin.ext ((by decide : ∀ c, k0_dev1 c = (prv c).val) c)
theorem dev2_eq (c : Dev nD) : (⟨k0_dev2 c, k0_dev2_lt c⟩ : Dev nD) = nxt c :=
  Fin.ext ((by decide : ∀ c, k0_dev2 c = (nxt c).val) c)
theorem dev3_eq (c : Dev nD) : (⟨k0_dev3 c, k0_dev3_lt c⟩ : Dev nD) = nxt c :=
  Fin.ext ((by decide : ∀ c, k0_dev3 c = (nxt c).val) c)
theorem dev4_eq (c : Dev nD) : (⟨k0_dev4 c, k0_dev4_lt c⟩ : Dev nD) = prv c :=
  Fin.ext ((by decide : ∀ c, k0_dev4 c = (prv c).val) c)
theorem dev5_eq (c : Dev nD) : (⟨k0_dev5 c, k0_dev5_lt c⟩ : Dev nD) = nxt c :=
  Fin.ext ((by decide : ∀ c, k0_dev5 c = (nxt c).val) c)
theorem dev6_eq (c : Dev nD) : (⟨k0_dev6 c, k0_dev6_lt c⟩ : Dev nD) = prv c :=
  Fin.ext ((by decide : ∀ c, k0_dev6 c = (prv c).val) c)
theorem dev7_eq (c : Dev nD) : (⟨k0_dev7 c, k0_dev7_lt c⟩ : Dev nD) = nxt c :=
  Fin.ext ((by decide : ∀ c, k0_dev7 c = (nxt c).val) c)
theorem dev8_eq (c : Dev nD) : (⟨k0_dev8 c, k0_dev8_lt c⟩ : Dev nD) = prv c :=
  Fin.ext ((by decide : ∀ c, k0_dev8 c = (prv c).val) c)

/-! ## The rows the kernel names -/

theorem off1_top (c : Dev nD) : k0_off1 c 0#32 = ![256 * c.val, 0] := by revert c; decide +kernel
theorem off1_bot (c : Dev nD) : k0_off1 c 128#32 = ![256 * c.val + 128, 0] := by revert c; decide +kernel
theorem off2_own (c : Dev nD) : k0_off2 c = ![256 * c.val, 0] := by revert c; decide +kernel
theorem off3_top (c : Dev nD) : k0_off3 c 0#32 = ![256 * (prv c).val, 0] := by revert c; decide +kernel
theorem off3_bot (c : Dev nD) : k0_off3 c 128#32 = ![256 * (prv c).val + 128, 0] := by revert c; decide +kernel
theorem off4_top (c : Dev nD) : k0_off4 c = ![256 * (prv c).val, 0] := by revert c; decide +kernel
theorem off5_top (c : Dev nD) : k0_off5 c 0#32 = ![256 * (nxt c).val, 0] := by revert c; decide +kernel
theorem off5_bot (c : Dev nD) : k0_off5 c 128#32 = ![256 * (nxt c).val + 128, 0] := by revert c; decide +kernel
theorem off6_right (c : Dev nD) : k0_off6 c 1#32 128#32 = ![256 * (nxt c).val + 128, 0] := by revert c; decide +kernel
theorem off6_top (c : Dev nD) : k0_off6 c 2#32 0#32 = ![256 * (opp c).val, 0] := by revert c; decide +kernel
theorem off6_bot (c : Dev nD) : k0_off6 c 2#32 128#32 = ![256 * (opp c).val + 128, 0] := by revert c; decide +kernel
theorem off7_left (c : Dev nD) : k0_off7 c = ![256 * (prv c).val, 0] := by revert c; decide +kernel
theorem off8_left (c : Dev nD) : k0_off8 c = ![256 * (prv c).val, 0] := by revert c; decide +kernel
theorem off9_right (c : Dev nD) : k0_off9 c 1#32 = ![256 * (nxt c).val, 0] := by revert c; decide +kernel
theorem off9_opp (c : Dev nD) : k0_off9 c 2#32 = ![256 * (opp c).val, 0] := by revert c; decide +kernel
theorem off10_right (c : Dev nD) : k0_off10 c 1#32 = ![256 * (nxt c).val, 0] := by revert c; decide +kernel
theorem off10_opp (c : Dev nD) : k0_off10 c 2#32 = ![256 * (opp c).val, 0] := by revert c; decide +kernel

/-! ## The buffers -/

/-- This device's block of `x`. -/
abbrev xM : Memref sig .tc .vmem S256x1024 .bf16 := Memref.whole cc0_stg0_0
/-- This device's block of `w`. -/
abbrev wM : Memref sig .tc .vmem S1024x256 .bf16 := Memref.whole cc0_stg1_0
/-- This device's block of the result. -/
abbrev oM : Memref sig .tc .vmem S1024x256 .f32 := Memref.whole cc0_stg2_0
/-- The gathered `x`. -/
abbrev gM : Memref sig .tc .vmem S1024x1024 .bf16 := Memref.whole cc0_scratch0
/-- What is forwarded, in the narrow format. -/
abbrev fM : Memref sig .tc .vmem S2x128x1024 .fp8e4m3 := Memref.whole cc0_scratch1
/-- What was forwarded here, in the narrow format. -/
abbrev hM : Memref sig .tc .vmem S2x128x1024 .fp8e4m3 := Memref.whole cc0_scratch2

/-! ## Sets of elements: rows of a matrix, and slots of a narrow buffer -/

/-- The rows `lo` to `lo + n - 1` of a matrix. -/
def rows {d : Fin 2 → ℕ} (lo n : ℕ) : Finset (⟨2, d⟩ : Shape).Idx :=
  Finset.univ.filter fun i => lo ≤ (i 0).val ∧ (i 0).val < lo + n
/-- Slot `s` of a narrow buffer. -/
def slot (s : ℕ) : Finset S2x128x1024.Idx := Finset.univ.filter fun i => (i 0).val = s

theorem mem_rows {d : Fin 2 → ℕ} {lo n : ℕ} {i : (⟨2, d⟩ : Shape).Idx} :
    i ∈ rows lo n ↔ lo ≤ (i 0).val ∧ (i 0).val < lo + n := by
  unfold rows; rw [Finset.mem_filter]; exact ⟨And.right, fun h => ⟨Finset.mem_univ _, h⟩⟩
theorem mem_slot {s : ℕ} {i : S2x128x1024.Idx} : i ∈ slot s ↔ (i 0).val = s := by
  unfold slot; rw [Finset.mem_filter]; exact ⟨And.right, fun h => ⟨Finset.mem_univ _, h⟩⟩

theorem rows_disjoint {d : Fin 2 → ℕ} {lo n lo' n' : ℕ} (h : lo + n ≤ lo' ∨ lo' + n' ≤ lo) :
    Disjoint (rows (d := d) lo n) (rows lo' n') := by
  rw [Finset.disjoint_left]; intro i hi hj; rw [mem_rows] at hi hj; omega
theorem rows_union {d : Fin 2 → ℕ} (lo n n' : ℕ) : rows (d := d) lo (n + n') = rows lo n ∪ rows (lo + n) n' := by
  ext i; rw [Finset.mem_union, mem_rows, mem_rows, mem_rows]; omega
theorem slot_disjoint : Disjoint (slot 0) (slot 1) := by
  rw [Finset.disjoint_left]; intro i hi hj; rw [mem_slot] at hi hj; omega
theorem slot_union : slot 0 ∪ slot 1 = Finset.univ := by
  ext i; rw [Finset.mem_union, mem_slot, mem_slot]
  have h : (i 0).val < 2 := (i 0).isLt
  exact ⟨fun _ => Finset.mem_univ _, fun _ => by omega⟩

/-- A window of whole rows of a matrix is those rows. -/
theorem rect_rows {d off size : Fin 2 → ℕ} {lo n : ℕ} (inb : ∀ a, off a + size a ≤ (⟨2, d⟩ : Shape).size a)
    (ho : off = ![lo, 0]) (hn : size 0 = n) (h1 : size 1 = d 1) :
    (Rect.unit (s := ⟨2, d⟩) off size inb).set = rows lo n := by
  subst ho hn
  ext i
  rw [Rect.mem_set_unit, mem_rows]
  refine ⟨fun h => h 0, fun h => Fin.forall_fin_two.mpr ⟨h, Nat.zero_le _, ?_⟩⟩
  show (i 1).val < 0 + size 1
  rw [h1, Nat.zero_add]; exact (i 1).isLt

/-- A window of one slot of a narrow buffer is that slot. -/
theorem rect_slot (s : ℕ) (inb : ∀ a, (![s, 0, 0] : Fin 3 → ℕ) a + S1x128x1024.size a ≤ S2x128x1024.size a) :
    (Rect.unit (s := S2x128x1024) ![s, 0, 0] S1x128x1024.size inb).set = slot s := by
  ext i
  rw [Rect.mem_set_unit, mem_slot]
  constructor
  · intro h
    have h0 : s ≤ (i 0).val ∧ (i 0).val < s + 1 := h 0
    omega
  · intro h a
    match a with
    | 0 => exact ⟨le_of_eq h.symm, by show (i 0).val < s + 1; omega⟩
    | 1 => exact ⟨Nat.zero_le _, by show (i 1).val < 0 + 128; rw [Nat.zero_add]; exact (i 1).isLt⟩
    | 2 => exact ⟨Nat.zero_le _, by show (i 2).val < 0 + 1024; rw [Nat.zero_add]; exact (i 2).isLt⟩

/-! ## Windows: the views the transfers, loads and stores name -/

/-- 128 rows of the gathered buffer. -/
abbrev gWin (off : Fin 2 → ℕ) (inb : ∀ a, off a + S128x1024.size a ≤ S1024x1024.size a) : Memref sig .tc .vmem S128x1024 .bf16 :=
  gM.slice (Rect.unit (s := S1024x1024) off S128x1024.size inb) (fun _ => rfl)
/-- 128 rows of this device's block of `x`. -/
abbrev xWin (off : Fin 2 → ℕ) (inb : ∀ a, off a + S128x1024.size a ≤ S256x1024.size a) : Memref sig .tc .vmem S128x1024 .bf16 :=
  xM.slice (Rect.unit (s := S256x1024) off S128x1024.size inb) (fun _ => rfl)
/-- A slot of the forwarding buffer, as a matrix of 128 rows. -/
abbrev fWin (s : ℕ) (inb : ∀ a, (![s, 0, 0] : Fin 3 → ℕ) a + S1x128x1024.size a ≤ S2x128x1024.size a) : Memref sig .tc .vmem S128x1024 .fp8e4m3 :=
  (fM.slice (Rect.unit (s := S2x128x1024) ![s, 0, 0] S1x128x1024.size inb) (fun _ => rfl)).squeeze S128x1024 squeezes_S1x128x1024_S128x1024
/-- A slot of the buffer forwarded to, as a matrix of 128 rows. -/
abbrev hWin (s : ℕ) (inb : ∀ a, (![s, 0, 0] : Fin 3 → ℕ) a + S1x128x1024.size a ≤ S2x128x1024.size a) : Memref sig .tc .vmem S128x1024 .fp8e4m3 :=
  (hM.slice (Rect.unit (s := S2x128x1024) ![s, 0, 0] S1x128x1024.size inb) (fun _ => rfl)).squeeze S128x1024 squeezes_S1x128x1024_S128x1024

theorem gWin_set {off : Fin 2 → ℕ} {lo : ℕ} (inb) (h : off = ![lo, 0]) : (gWin off inb).view.set = rows lo 128 := by
  show ((View.whole cc0_scratch0).slice _).set = _
  rw [View.set_slice_whole]; exact rect_rows inb h rfl rfl
theorem xWin_set {off : Fin 2 → ℕ} {lo : ℕ} (inb) (h : off = ![lo, 0]) : (xWin off inb).view.set = rows lo 128 := by
  show ((View.whole cc0_stg0_0).slice _).set = _
  rw [View.set_slice_whole]; exact rect_rows inb h rfl rfl
theorem fWin_set (s : ℕ) (inb) : (fWin s inb).view.set = slot s := by
  show (((View.whole cc0_scratch1).slice _).reshape _ _).set = _
  rw [View.set_reshape, View.set_slice_whole]; exact rect_slot s inb
theorem hWin_set (s : ℕ) (inb) : (hWin s inb).view.set = slot s := by
  show (((View.whole cc0_scratch2).slice _).reshape _ _).set = _
  rw [View.set_reshape, View.set_slice_whole]; exact rect_slot s inb

/-- Where an element of a window of rows lies in the buffer. -/
theorem unit_row {d off size : Fin 2 → ℕ} {lo : ℕ} (inb : ∀ a, off a + size a ≤ (⟨2, d⟩ : Shape).size a) (ho : off = ![lo, 0])
    (x : (Rect.unit (s := ⟨2, d⟩) off size inb).shape.Idx) :
    ((Rect.unit (s := ⟨2, d⟩) off size inb).emb x 0).val = lo + (x 0).val
      ∧ ((Rect.unit (s := ⟨2, d⟩) off size inb).emb x 1).val = (x 1).val := by
  subst ho
  refine ⟨?_, ?_⟩
  · rw [Rect.emb_apply]; show lo + 1 * (x 0).val = _; omega
  · rw [Rect.emb_apply]; show 0 + 1 * (x 1).val = _; omega

/-! ## Semaphores and their cells -/

/-- The runtime's barrier semaphore. -/
abbrev barS : Sem sig := (SemArray.scalar (sig.barrier 0 rfl) : Sems sig S_).sem
/-- The semaphore that counts transfer `k` leaving. -/
def sendS (k : Fin 6) : DmaSem sig := ⟨3 + k.val, by have := k.isLt; show 3 + k.val < 15; omega⟩
/-- The semaphore that counts transfer `k` arriving. -/
def recvS (k : Fin 6) : DmaSem sig := ⟨9 + k.val, by have := k.isLt; show 9 + k.val < 15; omega⟩

/-- The device transfer `k` goes to: transfers 0, 1 and 4 go right, the others left. -/
def tgt (k : Fin 6) (c : Dev nD) : Dev nD := if k = 0 ∨ k = 1 ∨ k = 4 then nxt c else prv c

abbrev barCell (c : Dev nD) : GSem nD τ sig := ((c : Thread nD τ), .reg barS)
abbrev sendCell (k : Fin 6) (c : Dev nD) : GSem nD τ sig := ((c : Thread nD τ), .dma (sendS k))
abbrev recvCell (k : Fin 6) (c : Dev nD) : GSem nD τ sig := ((c : Thread nD τ), .dma (recvS k))

/-- The thirteen semaphores of a device: the barrier, six leaving, six arriving. -/
def csem : Fin 13 → SemLoc sig := fun k =>
  if h : k.val = 0 then .reg barS
  else if h6 : k.val < 7 then .dma (sendS ⟨k.val - 1, by omega⟩)
  else .dma (recvS ⟨k.val - 7, by have := k.isLt; omega⟩)
abbrev kcell (ck : Dev nD × Fin 13) : GSem nD τ sig := ((ck.1 : Thread nD τ), csem ck.2)

theorem csem_injective : Function.Injective csem := by intro a b; revert a b; decide
theorem kcell_injective : Function.Injective kcell := by
  rintro ⟨c, k⟩ ⟨c', k'⟩ h
  have h1 : (c : Thread nD τ) = (c' : Thread nD τ) := congrArg Prod.fst h
  have h2 : csem k = csem k' := congrArg Prod.snd h
  exact Prod.ext (congrArg (fun t : Thread nD τ => t.1) h1) (csem_injective h2)

/-- Transfer `k`'s place among the thirteen. -/
def sIx (k : Fin 6) : Fin 13 := ⟨1 + k.val, by have := k.isLt; omega⟩
def rIx (k : Fin 6) : Fin 13 := ⟨7 + k.val, by have := k.isLt; omega⟩
theorem csem_bar : csem 0 = .reg barS := by decide
theorem csem_send (k : Fin 6) : csem (sIx k) = .dma (sendS k) := by revert k; decide
theorem csem_recv (k : Fin 6) : csem (rIx k) = .dma (recvS k) := by revert k; decide

end Cert.KernelIdeal.Ring
-- ==== Proof.KernelIdeal.Contents.lean ====
/-
What the buffers hold, as functions of the devices' blocks of `x` and `w`, and that each load, store and transfer of the
kernel reads or leaves just that.

`X d` is device `d`'s block of `x`, `W d` its block of `w`. A device gathers all four blocks of `x`; the one from the device
across reaches it through a neighbour in the narrow format, so it is narrowed and widened again.
-/
module

public import proofs.«01_k».proof.Proof.KernelIdeal.Places
public import Idealize.ShloMosaic.Lib.ValueLayout

@[expose] public section

noncomputable section

namespace Cert.KernelIdeal.Ring

open Cert.KernelIdeal Cert.KernelIdeal.Gen
open Idealize.ShloMosaic Idealize.ShloMosaic.TcCoe Idealize.ShloMosaic.ValueIdx

variable {F : FTy → Type} [FloatOps F]

/-! ## The values -/

/-- One entry, narrowed for forwarding. -/
def down (a : F .bf16) : F .fp8e4m3 := FloatOps.truncf .fp8e4m3 bitsLt_fp8e4m3_bf16 a
/-- One narrowed entry, widened again. -/
def up (a : F .fp8e4m3) : F .bf16 := FloatOps.extf .bf16 bitsLt_fp8e4m3_bf16 a

/-- What a device computes from a block of `x` and its block of `w`: the gated tanh of their product. -/
def act (x : Vec F S256x1024 .bf16) (w : Vec F S1024x256 .bf16) : Vec F S256x256 .f32 := k0_pay7 x w

theorem act_own (x : Vec F S256x1024 .bf16) (w : Vec F S1024x256 .bf16) :
    k0_pay4 (k0_pay2 x w) (k0_pay3 x w) (Scalar.ofBits .f32 0x3F800000#32) = act x w := by
  unfold act k0_pay4 k0_pay2 k0_pay3 k0_pay1 k0_pay7
  simp only [shapeCast_self]
theorem act_right (x : Vec F S256x1024 .bf16) (w : Vec F S1024x256 .bf16) : k0_pay8 x w = act x w := rfl
theorem act_opp (x : Vec F S256x1024 .bf16) (w : Vec F S1024x256 .bf16) : k0_pay11 x w = act x w := rfl

/-- The device whose block a row of a 1024-row matrix belongs to. -/
def owner {n : ℕ} (i : (⟨2, ![1024, n]⟩ : Shape).Idx) : Dev nD :=
  ⟨(i 0).val / 256, by have h : (i 0).val < 1024 := (i 0).isLt; show _ < 4; omega⟩
/-- A row's place within its block. -/
def within {n : ℕ} (i : (⟨2, ![1024, n]⟩ : Shape).Idx) : (⟨2, ![256, n]⟩ : Shape).Idx :=
  ix2 ⟨(i 0).val % 256, Nat.mod_lt _ (by decide)⟩ (i 1)

theorem owner_eq {n : ℕ} {i : (⟨2, ![1024, n]⟩ : Shape).Idx} {d : Dev nD} {r : ℕ} (hr : r < 256) (h : (i 0).val = 256 * d.val + r) :
    owner i = d := Fin.ext (by show (i 0).val / 256 = d.val; omega)
theorem within_eq {n : ℕ} {i : (⟨2, ![1024, n]⟩ : Shape).Idx} {d : Dev nD} {r : ℕ} (hr : r < 256) (h : (i 0).val = 256 * d.val + r) :
    within i = ix2 ⟨r, hr⟩ (i 1) := by
  unfold within; exact congrArg (fun a => ix2 a (i 1)) (Fin.ext (by show (i 0).val % 256 = r; omega))

theorem owner_rows {n : ℕ} {i : (⟨2, ![1024, n]⟩ : Shape).Idx} {d : Dev nD} {h k : ℕ} (hk : h + k ≤ 256)
    (hi : i ∈ rows (d := ![1024, n]) (256 * d.val + h) k) : owner i = d := by
  rw [mem_rows] at hi
  exact owner_eq (r := (i 0).val - 256 * d.val) (by omega) (by omega)

variable (X : Dev nD → Vec F S256x1024 .bf16) (W : Dev nD → Vec F S1024x256 .bf16)

/-- Device `d`'s block of `x` as device `c` has it in the end: passed through the narrow format when `d` is across. -/
def full (c d : Dev nD) : Vec F S256x1024 .bf16 := fun j => if d = opp c then up (down (X d j)) else X d j
/-- The 128 rows of device `d`'s block of `x` that start at row `h`. -/
def half (d : Dev nD) (h : ℕ) (hh : h + 128 ≤ 256) : Vec F S128x1024 .bf16 := fun j =>
  X d (ix2 ⟨h + (j 0).val, by have : (j 0).val < 128 := (j 0).isLt; omega⟩ (j 1))
/-- What device `c`'s gathered buffer holds in the end. -/
def gathered (c : Dev nD) : Vec F S1024x1024 .bf16 := fun i => full X c (owner i) (within i)
/-- Device `d`'s block of `x`, narrowed, in two slots of 128 rows. -/
def narrowed (d : Dev nD) : Vec F S2x128x1024 .fp8e4m3 := fun i =>
  down (X d (ix2 ⟨128 * (i 0).val + (i 1).val, by
    have h0 : (i 0).val < 2 := (i 0).isLt; have h1 : (i 1).val < 128 := (i 1).isLt; omega⟩ (i 2)))
/-- What device `c` forwards: the first half of its left neighbour's block, the second half of its right neighbour's. -/
def forwarded (c : Dev nD) : Vec F S2x128x1024 .fp8e4m3 := fun i =>
  if (i 0).val = 0 then narrowed X (prv c) i else narrowed X (nxt c) i
/-- Device `c`'s block of the result. -/
def outAt (c : Dev nD) : Vec F S1024x256 .f32 := fun i => act (full X c (owner i)) (W c) (within i)

theorem full_near {c d : Dev nD} (h : d ≠ opp c) : full X c d = X d := funext fun j => if_neg h

/-! ## The first transfers -/

/-- Half a block of `x` landing in the gathered buffer of a device that is not across. -/
theorem landed_eq {c d : Dev nD} (hne : c ≠ opp d) {off xo : Fin 2 → ℕ} {h : ℕ} (hh : h + 128 ≤ 256) (inb) (xinb)
    (ho : off = ![256 * c.val + h, 0]) (hx : xo = ![h, 0]) (fd : Vec F S1024x1024 .bf16) :
    ∀ i ∈ rows (256 * c.val + h) 128,
      (gWin off inb).view.write (Elt F) fd ((xWin xo xinb).view.read (Elt F) (X c)) Finset.univ i = gathered X d i := by
  intro i hi
  rw [← gWin_set inb ho] at hi
  obtain ⟨x, -, rfl⟩ := Finset.mem_map.mp hi
  rw [View.write_emb_of_mem _ _ (Finset.mem_univ x)]
  have e := unit_row (d := ![1024, 1024]) inb ho x
  have e' := unit_row (d := ![256, 1024]) xinb hx x
  have hx0 : (x 0).val < 128 := (x 0).isLt
  show X c ((xWin xo xinb).view.emb x) = full X d (owner ((gWin off inb).view.emb x)) (within ((gWin off inb).view.emb x))
  have e0 : ((gWin off inb).view.emb x 0).val = 256 * c.val + (h + (x 0).val) := by rw [← Nat.add_assoc]; exact e.1
  rw [owner_eq (by omega) e0, within_eq (by omega) e0, full_near X hne]
  refine congrArg (X c) ?_
  rw [eq_ix2 (n0 := 256) (n1 := 1024) ((xWin xo xinb).view.emb x)]
  exact congrArg₂ ix2 (Fin.ext e'.1) (Fin.ext (e'.2.trans e.2.symm))

/-! ## Loads of the gathered buffer -/

theorem load_block (c d : Dev nD) {off : Fin 2 → ℕ} (inb) (ho : off = ![256 * d.val, 0]) :
    gM.view.readAt (Elt F) (Rect.unit (s := S1024x1024) off S256x1024.size inb).toLoadRect (gathered X c) = full X c d := by
  funext x
  have e := unit_row (d := ![1024, 1024]) inb ho x
  have hx0 : (x 0).val < 256 := (x 0).isLt
  show full X c (owner ((Rect.unit (s := S1024x1024) off S256x1024.size inb).emb x)) (within ((Rect.unit (s := S1024x1024) off S256x1024.size inb).emb x)) = _
  rw [owner_eq hx0 e.1, within_eq hx0 e.1]
  refine congrArg (full X c d) (Eq.trans ?_ (eq_ix2 (n0 := 256) (n1 := 1024) x).symm)
  exact congrArg₂ ix2 (Fin.ext rfl) (Fin.ext e.2)

theorem load_half {c d : Dev nD} (hne : d ≠ opp c) {h : ℕ} (hh : h + 128 ≤ 256) {off : Fin 2 → ℕ} (inb)
    (ho : off = ![256 * d.val + h, 0]) :
    gM.view.readAt (Elt F) (Rect.unit (s := S1024x1024) off S128x1024.size inb).toLoadRect (gathered X c) = half X d h hh := by
  funext x
  have e := unit_row (d := ![1024, 1024]) inb ho x
  have hx0 : (x 0).val < 128 := (x 0).isLt
  have e0 : ((Rect.unit (s := S1024x1024) off S128x1024.size inb).emb x 0).val = 256 * d.val + (h + (x 0).val) := by
    rw [← Nat.add_assoc]; exact e.1
  show full X c (owner ((Rect.unit (s := S1024x1024) off S128x1024.size inb).emb x)) (within ((Rect.unit (s := S1024x1024) off S128x1024.size inb).emb x)) = _
  rw [owner_eq (by omega) e0, within_eq (by omega) e0, full_near X hne]
  exact congrArg (X d) (congrArg₂ ix2 rfl (Fin.ext e.2))

/-! ## The narrow buffers -/

theorem slot_emb (s : ℕ) (inb : ∀ a, (![s, 0, 0] : Fin 3 → ℕ) a + S1x128x1024.size a ≤ S2x128x1024.size a)
    (z : Fin 1) (p : Fin 128) (q : Fin 1024) :
    (Rect.unit (s := S2x128x1024) ![s, 0, 0] S1x128x1024.size inb).emb (ix3 z p q)
      = ix3 ⟨s, by have h := inb 0; change s + 1 ≤ 2 at h; omega⟩ p q := by
  have hz : z.val = 0 := by omega
  funext a
  match a with
  | 0 => exact Fin.ext (by rw [Rect.emb_apply]; show s + 1 * z.val = s; omega)
  | 1 => exact Fin.ext (by rw [Rect.emb_apply]; show 0 + 1 * p.val = p.val; omega)
  | 2 => exact Fin.ext (by rw [Rect.emb_apply]; show 0 + 1 * q.val = q.val; omega)

/-- Storing half a block, narrowed, into its slot of the forwarding buffer. -/
theorem narrowed_store (d : Dev nD) (s : ℕ) (inb) (hh : 128 * s + 128 ≤ 256) (f : Vec F S2x128x1024 .fp8e4m3) :
    ∀ i ∈ slot s, (fM.access (Rect.unit (s := S2x128x1024) ![s, 0, 0] S1x128x1024.size inb)).write (Elt F) f
      (k0_pay5 (half X d (128 * s) hh)) Finset.univ i = narrowed X d i := by
  intro i hi
  rw [← rect_slot s inb, ← Rect.map_emb_univ] at hi
  obtain ⟨x, -, rfl⟩ := Finset.mem_map.mp hi
  refine (View.write_emb_of_mem _ _ (Finset.mem_univ x)).trans ?_
  show k0_pay5 (half X d (128 * s) hh) x = _
  obtain ⟨z, p, q, rfl⟩ : ∃ (z : Fin 1) (p : Fin 128) (q : Fin 1024), x = ix3 z p q := ⟨x 0, x 1, x 2, eq_ix3 x⟩
  rw [slot_emb]
  unfold k0_pay5
  rw [shapeCast_ab_1ab_apply]
  rfl

theorem pay6_eq (v : Vec F S128x1024 .bf16) : k0_pay6 v = k0_pay5 v := rfl
theorem pay10_eq (v : Vec F S1x128x1024 .fp8e4m3) : k0_pay10 v = k0_pay9 v := rfl

/-- A forwarded slot landing. -/
theorem forwarded_landed (c : Dev nD) (d : Dev nD) (s : ℕ) (inb) (inb')
    (hd : ∀ i ∈ slot s, forwarded X c i = narrowed X d i) (fd : Vec F S2x128x1024 .fp8e4m3) :
    ∀ i ∈ slot s, (hWin s inb).view.write (Elt F) fd ((fWin s inb').view.read (Elt F) (forwarded X c)) Finset.univ i
      = narrowed X d i := by
  intro i hi
  have hi' := hi
  rw [← hWin_set s inb] at hi'
  obtain ⟨x, -, rfl⟩ := Finset.mem_map.mp hi'
  rw [View.write_emb_of_mem _ _ (Finset.mem_univ x)]
  exact hd _ hi

/-- Half of the block across, widened, stored into the gathered buffer. -/
theorem widened_store (c : Dev nD) (s : ℕ) (hinb) {off : Fin 2 → ℕ} (inb) (ho : off = ![256 * (opp c).val + 128 * s, 0])
    (hh : 128 * s + 128 ≤ 256) (f : Vec F S1024x1024 .bf16) :
    ∀ i ∈ rows (256 * (opp c).val + 128 * s) 128,
      (gM.access (Rect.unit (s := S1024x1024) off S128x1024.size inb)).write (Elt F) f
        (k0_pay9 (hM.view.readAt (Elt F) (Rect.unit (s := S2x128x1024) ![s, 0, 0] S1x128x1024.size hinb).toLoadRect (narrowed X (opp c))))
        Finset.univ i = gathered X c i := by
  intro i hi
  rw [← rect_rows (n := 128) (d := ![1024, 1024]) inb ho rfl rfl, ← Rect.map_emb_univ] at hi
  obtain ⟨x, -, rfl⟩ := Finset.mem_map.mp hi
  refine (View.write_emb_of_mem _ _ (Finset.mem_univ x)).trans ?_
  have e := unit_row (d := ![1024, 1024]) inb ho x
  have hx0 : (x 0).val < 128 := (x 0).isLt
  have e0 : ((Rect.unit (s := S1024x1024) off S128x1024.size inb).emb x 0).val = 256 * (opp c).val + (128 * s + (x 0).val) := by
    rw [← Nat.add_assoc]; exact e.1
  show k0_pay9 _ x = full X c (owner ((Rect.unit (s := S1024x1024) off S128x1024.size inb).emb x)) (within ((Rect.unit (s := S1024x1024) off S128x1024.size inb).emb x))
  rw [owner_eq (by omega) e0, within_eq (by omega) e0]
  unfold full
  rw [if_pos rfl]
  have e1 : (Rect.unit (s := S1024x1024) off S128x1024.size inb).emb x 1 = x 1 := Fin.ext e.2
  rw [e1]
  obtain ⟨p, q, rfl⟩ : ∃ (p : Fin 128) (q : Fin 1024), x = ix2 p q := ⟨x 0, x 1, eq_ix2 x⟩
  unfold k0_pay9
  rw [shapeCast_self]
  show up (shapeCast S128x1024 _ _ (ix2 p q)) = _
  rw [shapeCast_1ab_ab_apply]
  refine congrArg up ?_
  show narrowed X (opp c) ((Rect.unit (s := S2x128x1024) ![s, 0, 0] S1x128x1024.size hinb).emb (ix3 _ p q)) = _
  rw [slot_emb]
  rfl

/-! ## The result buffer -/

/-- Storing the result of block `d` leaves its rows right, -/
theorem out_in (c d : Dev nD) {off : Fin 2 → ℕ} (inb) (ho : off = ![256 * d.val, 0]) (f : Vec F S1024x256 .f32)
    {i : S1024x256.Idx} (hi : owner i = d) :
    (oM.access (Rect.unit (s := S1024x256) off S256x256.size inb)).write (Elt F) f (act (full X c d) (W c)) Finset.univ i
      = outAt X W c i := by
  have hi' : i ∈ (Rect.unit (s := S1024x256) off S256x256.size inb).set := by
    rw [rect_rows (n := 256) (d := ![1024, 256]) inb ho rfl rfl, mem_rows, ← hi]
    show 256 * ((i 0).val / 256) ≤ _ ∧ _
    have : (i 0).val < 1024 := (i 0).isLt
    exact ⟨by omega, by show (i 0).val < 256 * ((i 0).val / 256) + 256; omega⟩
  rw [← Rect.map_emb_univ] at hi'
  obtain ⟨x, -, rfl⟩ := Finset.mem_map.mp hi'
  refine (View.write_emb_of_mem _ _ (Finset.mem_univ x)).trans ?_
  have e := unit_row (d := ![1024, 256]) inb ho x
  have hx0 : (x 0).val < 256 := (x 0).isLt
  show act (full X c d) (W c) x = act (full X c (owner ((Rect.unit (s := S1024x256) off S256x256.size inb).emb x))) (W c) (within ((Rect.unit (s := S1024x256) off S256x256.size inb).emb x))
  rw [owner_eq hx0 e.1, within_eq hx0 e.1]
  refine congrArg (act (full X c d) (W c)) ((eq_ix2 (n0 := 256) (n1 := 256) x).trans ?_)
  exact congrArg₂ ix2 rfl (Fin.ext e.2.symm)

omit [FloatOps F] in
/-- and changes no others. -/
theorem out_off (d : Dev nD) {off : Fin 2 → ℕ} (inb) (ho : off = ![256 * d.val, 0]) (f : Vec F S1024x256 .f32) (v : Vec F S256x256 .f32)
    {i : S1024x256.Idx} (hi : owner i ≠ d) :
    (oM.access (Rect.unit (s := S1024x256) off S256x256.size inb)).write (Elt F) f v Finset.univ i = f i := by
  refine View.write_of_not_mem _ _ _ fun h => hi ?_
  rw [View.setOn_univ] at h
  have h' : i ∈ rows (d := ![1024, 256]) (256 * d.val + 0) 256 := by
    rw [Nat.add_zero, ← rect_rows (n := 256) (d := ![1024, 256]) inb ho rfl rfl]
    exact (View.set_slice_whole (sig := sig) cc0_stg2_0 _) ▸ h
  exact owner_rows (by omega) h'

/-- The four stores together. -/
theorem out_all (c : Dev nD) {o₁ o₂ o₃ o₄ : Fin 2 → ℕ} (i₁) (i₂) (i₃) (i₄) (h₁ : o₁ = ![256 * c.val, 0]) (h₂ : o₂ = ![256 * (prv c).val, 0])
    (h₃ : o₃ = ![256 * (nxt c).val, 0]) (h₄ : o₄ = ![256 * (opp c).val, 0]) (f : Vec F S1024x256 .f32) :
    (oM.access (Rect.unit (s := S1024x256) o₄ S256x256.size i₄)).write (Elt F)
      ((oM.access (Rect.unit (s := S1024x256) o₃ S256x256.size i₃)).write (Elt F)
        ((oM.access (Rect.unit (s := S1024x256) o₂ S256x256.size i₂)).write (Elt F)
          ((oM.access (Rect.unit (s := S1024x256) o₁ S256x256.size i₁)).write (Elt F) f (act (full X c c) (W c)) Finset.univ)
          (act (full X c (prv c)) (W c)) Finset.univ)
        (act (full X c (nxt c)) (W c)) Finset.univ)
      (act (full X c (opp c)) (W c)) Finset.univ = outAt X W c := by
  funext i
  by_cases h4 : owner i = opp c
  · exact out_in X W c _ i₄ h₄ _ h4
  rw [out_off _ i₄ h₄ _ _ h4]
  by_cases h3 : owner i = nxt c
  · exact out_in X W c _ i₃ h₃ _ h3
  rw [out_off _ i₃ h₃ _ _ h3]
  by_cases h2 : owner i = prv c
  · exact out_in X W c _ i₂ h₂ _ h2
  rw [out_off _ i₂ h₂ _ _ h2]
  refine out_in X W c _ i₁ h₁ _ ?_
  rcases dev_cases c (owner i) with h | h | h | h
  · exact h
  · exact absurd h h2
  · exact absurd h h3
  · exact absurd h h4

end Cert.KernelIdeal.Ring
-- ==== Proof.KernelIdeal.Protocol.lean ====
/-
Who may touch which memory when.

Every device has thirteen semaphores: the barrier, and one leaving and one arriving per transfer. Each counts one round. A
barrier unit from a neighbour hands over the rows of that neighbour's gathered buffer, and the slot of its narrow buffer,
that this device will send to. An arriving transfer hands over the rows or the slot it filled; a leaving one hands back what
it read.
-/
module

public import proofs.«01_k».proof.Proof.KernelIdeal.Contents

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Pieces of the buffers -/

/-- Elements of device `c`'s gathered buffer. -/
def gPts (c : Dev nD) (S : Finset S1024x1024.Idx) (f : Vec F S1024x1024 .bf16) : sProp 𝕄 :=
  gM.view.loc (c : Thread nD τ) ↦[S]{fullShare} f
/-- Elements of device `c`'s forwarding buffer. -/
def fPts (c : Dev nD) (S : Finset S2x128x1024.Idx) (f : Vec F S2x128x1024 .fp8e4m3) : sProp 𝕄 :=
  fM.view.loc (c : Thread nD τ) ↦[S]{fullShare} f
/-- Elements of the buffer device `c` is forwarded to. -/
def hPts (c : Dev nD) (S : Finset S2x128x1024.Idx) (f : Vec F S2x128x1024 .fp8e4m3) : sProp 𝕄 :=
  hM.view.loc (c : Thread nD τ) ↦[S]{fullShare} f
/-- A share of elements of device `c`'s block of `x`. -/
def xPts (c : Dev nD) (S : Finset S256x1024.Idx) (q : PosShare TreeShare) (f : Vec F S256x1024 .bf16) : sProp 𝕄 :=
  xM.view.loc (c : Thread nD τ) ↦[S]{q} f

omit [FloatOps F] in
instance gPts_storable (c : Dev nD) (S) (f) : BI.Storable (upEmb : UEmb _ 𝕄) (gPts (F := F) c S f) := by unfold gPts; infer_instance
omit [FloatOps F] in
instance fPts_storable (c : Dev nD) (S) (f) : BI.Storable (upEmb : UEmb _ 𝕄) (fPts (F := F) c S f) := by unfold fPts; infer_instance
omit [FloatOps F] in
instance hPts_storable (c : Dev nD) (S) (f) : BI.Storable (upEmb : UEmb _ 𝕄) (hPts (F := F) c S f) := by unfold hPts; infer_instance
omit [FloatOps F] in
instance xPts_storable (c : Dev nD) (S) (q) (f) : BI.Storable (upEmb : UEmb _ 𝕄) (xPts (F := F) c S q f) := by unfold xPts; infer_instance

omit [FloatOps F] in
theorem gPts_congr (c : Dev nD) {S} {f g : Vec F S1024x1024 .bf16} (h : ∀ i ∈ S, f i = g i) : gPts c S f = gPts c S g := pointsTo_congr h
omit [FloatOps F] in
theorem fPts_congr (c : Dev nD) {S} {f g : Vec F S2x128x1024 .fp8e4m3} (h : ∀ i ∈ S, f i = g i) : fPts c S f = fPts c S g := pointsTo_congr h
omit [FloatOps F] in
theorem hPts_congr (c : Dev nD) {S} {f g : Vec F S2x128x1024 .fp8e4m3} (h : ∀ i ∈ S, f i = g i) : hPts c S f = hPts c S g := pointsTo_congr h

omit [FloatOps F] in
theorem gPts_halves (c : Dev nD) (lo : ℕ) (f : Vec F S1024x1024 .bf16) :
    gPts c (rows lo 256) f ⊣⊢ iprop(gPts c (rows lo 128) f ∗ gPts c (rows (lo + 128) 128) f) := by
  unfold gPts
  rw [show rows (d := ![1024, 1024]) lo 256 = rows lo 128 ∪ rows (lo + 128) 128 from rows_union lo 128 128]
  exact pointsTo_union (rows_disjoint (Or.inl le_rfl))

/-! ## What the transfers carry -/

/-- The device transfer `k` comes from. -/
def src (k : Fin 6) (c : Dev nD) : Dev nD := if k = 0 ∨ k = 1 ∨ k = 4 then prv c else nxt c
/-- The row of the block of `x` that transfer `k`, one of the first four, starts at. -/
def hOf (k : Fin 6) : ℕ := if k = 1 ∨ k = 2 then 128 else 0
/-- The share of the block of `x` that transfer `k` reads at. -/
def qOf (k : Fin 6) : PosShare TreeShare := if k = 0 ∨ k = 1 then fullShare.left.left else fullShare.left.right

theorem src_tgt (k : Fin 6) (c : Dev nD) : src k (tgt k c) = c := by revert k c; decide
theorem near_tgt (k : Fin 6) (c : Dev nD) : c ≠ opp (tgt k c) := by revert k c; decide
theorem hOf_le (k : Fin 6) : hOf k + 128 ≤ 256 := by revert k; decide

/-- What one transfer adds to each of its two semaphores. -/
def N16 : ℕ := (xWin ![0, 0] inb_S256x1024_S128x1024_0_0).view.dmaCredit
def N8 : ℕ := (fWin 0 inb_S2x128x1024_S1x128x1024_0_0_0).view.dmaCredit
def cnt (k : Fin 6) : ℕ := if k.val < 4 then N16 else N8
theorem cnt_pos (k : Fin 6) : 0 < cnt k := by
  unfold cnt; split
  · exact View.dmaCredit_pos _ (by decide)
  · exact View.dmaCredit_pos _ (by decide)

variable (X : Dev nD → Vec F S256x1024 .bf16)

/-- What comes back when transfer `k` has left. -/
def sendPay (k : Fin 6) (c : Dev nD) : sProp 𝕄 :=
  if k.val < 4 then xPts c (rows (hOf k) 128) (qOf k) (X c) else fPts c (slot (k.val - 4)) (forwarded X c)
/-- What is there when transfer `k` has arrived. -/
def recvPay (k : Fin 6) (c : Dev nD) : sProp 𝕄 :=
  if k.val < 4 then gPts c (rows (256 * (src k c).val + hOf k) 128) (gathered X c) else hPts c (slot (k.val - 4)) (narrowed X (opp c))

omit [FloatOps F] in
/-- What a neighbour `d` hands device `c` at the barrier: the rows for `c`'s block, and slot `s`. -/
def handed (c d : Dev nD) (s : ℕ) : sProp 𝕄 :=
  iprop((∃ f : Vec F S1024x1024 .bf16, gPts d (rows (256 * c.val) 256) f) ∗ ∃ f : Vec F S2x128x1024 .fp8e4m3, hPts d (slot s) f)
/-- The two barrier units: the right neighbour's and the left neighbour's. -/
def barPay (c : Dev nD) (b : Bool) : sProp 𝕄 := if b then handed (F := F) c (nxt c) 0 else handed (F := F) c (prv c) 1

/-! ## The schedule -/

/-- Which transfer a DMA semaphore counts. -/
def kOf (q : DmaSem sig) : Fin 6 := ⟨(q.val - 3) % 6, Nat.mod_lt _ (by decide)⟩
theorem kOf_send (k : Fin 6) : kOf (sendS k) = k := by revert k; decide
theorem kOf_recv (k : Fin 6) : kOf (recvS k) = k := by revert k; decide
theorem send_lt (k : Fin 6) : (sendS k).val < 9 := by revert k; decide
theorem send_ge (k : Fin 6) : 3 ≤ (sendS k).val := by revert k; decide
theorem recv_ge (k : Fin 6) : ¬ (recvS k).val < 9 := by revert k; decide
theorem recv_ge' (k : Fin 6) : 3 ≤ (recvS k).val := by revert k; decide

def dutiesAt : SemLoc sig → Finset Bool
  | .reg _ => Finset.univ
  | .dma q => if 3 ≤ q.val then {false} else ∅
def amountAt : SemLoc sig → ℕ
  | .reg _ => 1
  | .dma q => cnt (kOf q)
def payAt (c : Dev nD) (b : Bool) : SemLoc sig → sProp 𝕄
  | .reg _ => barPay (F := F) c b
  | .dma q => if q.val < 9 then sendPay X (kOf q) c else recvPay X (kOf q) c

/-- One round: two units at a barrier, one transfer at every other of the ring's semaphores. -/
def Rd : Rounds.Schedule (GSem nD τ sig) Bool 𝕄 where
  duties g r := if r = 0 ∧ g.1.2 = .tc then dutiesAt g.2 else ∅
  unitless _ := False
  amount g _ _ := amountAt g.2
  payload g _ b := payAt X g.1.1 b g.2
  amount_pos g _ _ _ := by
    cases g.2 with
    | reg s => exact Nat.one_pos
    | dma q => exact cnt_pos _

instance handed_storable (c d : Dev nD) (s : ℕ) : BI.Storable (upEmb : UEmb _ 𝕄) (handed (F := F) c d s) := by
  unfold handed; infer_instance

instance Rd_storable (g : GSem nD τ sig) (r : ℕ) (b : Bool) : BI.Storable (upEmb : UEmb _ 𝕄) ((Rd (F := F) X).payload g r b) := by
  show BI.Storable upEmb (payAt X g.1.1 b g.2)
  cases g.2 with
  | reg s =>
    show BI.Storable upEmb (barPay (F := F) g.1.1 b)
    cases b
    · exact handed_storable _ _ _
    · exact handed_storable _ _ _
  | dma q =>
    show BI.Storable upEmb (if q.val < 9 then sendPay X (kOf q) g.1.1 else recvPay X (kOf q) g.1.1)
    by_cases h : q.val < 9 <;> by_cases h' : (kOf q).val < 4 <;> simp only [h, h', if_true, if_false, sendPay, recvPay] <;> infer_instance

section Sched
variable (c : Dev nD) (k : Fin 6)

theorem duties_bar : (Rd (F := F) X).duties (barCell c) 0 = Finset.univ := by
  show (if (0 : ℕ) = 0 ∧ (c : Thread nD τ).2 = .tc then dutiesAt (barCell c).2 else ∅) = _
  rw [if_pos ⟨rfl, rfl⟩]; rfl
theorem duties_send : (Rd (F := F) X).duties (sendCell k c) 0 = {false} := by
  show (if (0 : ℕ) = 0 ∧ (c : Thread nD τ).2 = .tc then (if 3 ≤ (sendS k).val then ({false} : Finset Bool) else ∅) else ∅) = _
  rw [if_pos ⟨rfl, rfl⟩, if_pos (send_ge k)]
theorem duties_recv : (Rd (F := F) X).duties (recvCell k c) 0 = {false} := by
  show (if (0 : ℕ) = 0 ∧ (c : Thread nD τ).2 = .tc then (if 3 ≤ (recvS k).val then ({false} : Finset Bool) else ∅) else ∅) = _
  rw [if_pos ⟨rfl, rfl⟩, if_pos (recv_ge' k)]
theorem duties_later (g : GSem nD τ sig) : ∀ r, 1 ≤ r → (Rd (F := F) X).duties g r = ∅ :=
  fun r hr => if_neg fun h => by omega

theorem amount_bar (b : Bool) : (Rd (F := F) X).amount (barCell c) 0 b = 1 := rfl
theorem amount_send (b : Bool) : (Rd (F := F) X).amount (sendCell k c) 0 b = cnt k := congrArg cnt (kOf_send k)
theorem amount_recv (b : Bool) : (Rd (F := F) X).amount (recvCell k c) 0 b = cnt k := congrArg cnt (kOf_recv k)

theorem expect_bar : (Rd (F := F) X).expect (barCell c) 0 = 2 := by
  unfold Schedule.expect Schedule.amountOf
  rw [duties_bar, Finset.sum_congr rfl fun b _ => amount_bar X c b, Finset.sum_const, Finset.card_univ, Fintype.card_bool, smul_eq_mul]
theorem expect_send : (Rd (F := F) X).expect (sendCell k c) 0 = cnt k := by
  unfold Schedule.expect Schedule.amountOf; rw [duties_send, Finset.sum_singleton, amount_send]
theorem expect_recv : (Rd (F := F) X).expect (recvCell k c) 0 = cnt k := by
  unfold Schedule.expect Schedule.amountOf; rw [duties_recv, Finset.sum_singleton, amount_recv]

theorem payload_bar (b : Bool) : (Rd (F := F) X).payload (barCell c) 0 b = barPay c b := rfl
theorem payload_send (b : Bool) : (Rd (F := F) X).payload (sendCell k c) 0 b = sendPay X k c := by
  show (if (sendS k).val < 9 then sendPay X (kOf (sendS k)) c else _) = _
  rw [if_pos (send_lt k), kOf_send]
theorem payload_recv (b : Bool) : (Rd (F := F) X).payload (recvCell k c) 0 b = recvPay X k c := by
  show (if (recvS k).val < 9 then _ else recvPay X (kOf (recvS k)) c) = _
  rw [if_neg (recv_ge k), kOf_recv]

theorem rest_bar : bigSep ((Rd (F := F) X).duties (barCell c) 0 \ ∅) (fun b => (Rd (F := F) X).payload (barCell c) 0 b)
    = iprop(handed (F := F) c (prv c) 1 ∗ handed (F := F) c (nxt c) 0) := by
  rw [Finset.sdiff_empty, duties_bar, bigSep_univ_eq_bigSepL [false, true] (by decide) (by decide), bigSepL_cons_cons, bigSepL_singleton,
    payload_bar, payload_bar]
  rfl
theorem rest_send : bigSep ((Rd (F := F) X).duties (sendCell k c) 0 \ ∅) (fun b => (Rd (F := F) X).payload (sendCell k c) 0 b) = sendPay X k c := by
  rw [Finset.sdiff_empty, duties_send, bigSep_singleton, payload_send]
theorem rest_recv : bigSep ((Rd (F := F) X).duties (recvCell k c) 0 \ ∅) (fun b => (Rd (F := F) X).payload (recvCell k c) 0 b) = recvPay X k c := by
  rw [Finset.sdiff_empty, duties_recv, bigSep_singleton, payload_recv]

end Sched

/-! ## What a device owes, and the order of waiting -/

/-- The transfers `l` still to be made by device `c`. -/
def oweFrom (c : Dev nD) : List (Fin 6) → CellTallies nD τ sig Unit
  | [] => 0
  | k :: l => oweFrom c l + tallyAt (recvCell k (tgt k c)) () (cnt k)
/-- The transfers in program order. -/
def order : List (Fin 6) := [0, 2, 1, 3, 4, 5]
/-- All a device owes at the start: the six transfers and a barrier unit to each neighbour, -/
def O₁ (c : Dev nD) : CellTallies nD τ sig Unit := oweFrom c order + tallyAt (barCell (nxt c)) () 1
def O₀ (c : Dev nD) : CellTallies nD τ sig Unit := O₁ c + tallyAt (barCell (prv c)) () 1

def L (g : GSem nD τ sig) : Finset Unit := if g.1.2 = .tc then {()} else ∅
/-- Barriers come before the first arrivals, those before the forwarded ones; nobody waits for anything else while owing. -/
def lvAt : SemLoc sig → ℕ
  | .reg _ => 1
  | .dma q => if q.val < 9 then 0 else if q.val < 13 then 2 else 3
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl

theorem oweFrom_pos {c : Dev nD} {g : GSem nD τ sig} {u : Unit} : ∀ {l : List (Fin 6)}, 0 < oweFrom c l g u →
    ∃ k ∈ l, g = recvCell k (tgt k c)
  | [], h => absurd h (Nat.lt_irrefl 0)
  | k :: l, h => by
    unfold oweFrom at h
    rw [Pi.add_apply, Finsupp.add_apply, tallyAt_apply] at h
    by_cases hg : g = recvCell k (tgt k c) ∧ u = ()
    · exact ⟨k, List.mem_cons_self, hg.1⟩
    · rw [if_neg hg, Nat.add_zero] at h
      obtain ⟨k', hk', e⟩ := oweFrom_pos h
      exact ⟨k', List.mem_cons_of_mem _ hk', e⟩

theorem O₀_pos {c : Dev nD} {g : GSem nD τ sig} {u : Unit} (h : 0 < O₀ c g u) :
    (∃ k, g = recvCell k (tgt k c)) ∨ g = barCell (nxt c) ∨ g = barCell (prv c) := by
  unfold O₀ O₁ at h
  rw [Pi.add_apply, Finsupp.add_apply, Pi.add_apply, Finsupp.add_apply, tallyAt_apply, tallyAt_apply] at h
  by_cases h1 : g = barCell (prv c) ∧ u = ()
  · exact Or.inr (Or.inr h1.1)
  rw [if_neg h1, Nat.add_zero] at h
  by_cases h2 : g = barCell (nxt c) ∧ u = ()
  · exact Or.inr (Or.inl h2.1)
  rw [if_neg h2, Nat.add_zero] at h
  obtain ⟨k, -, e⟩ := oweFrom_pos h
  exact Or.inl ⟨k, e⟩

theorem lv_recv_pos (k : Fin 6) : 1 < lvAt (.dma (recvS k)) := by revert k; decide

omit [FloatOps F] in
/-- A device may wait on a staging semaphore whatever it owes of the ring, -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; show lvAt (.dma q) ≤ 0; exact le_of_eq (if_pos hq))
      (fun g u hg => by
        rcases O₀_pos hg with ⟨k, rfl⟩ | rfl | rfl
        · exact lt_trans Nat.one_pos (lv_recv_pos k)
        · exact Nat.one_pos
        · exact Nat.one_pos)
  · rw [MayWait_zero]; iintro -; iempintro

omit [FloatOps F] in
/-- and on a semaphore of the ring while it owes only later arrivals. -/
theorem mayWait_ring (c : Dev nD) (sm : SemLoc sig) (l : List (Fin 6)) (hl : ∀ k ∈ l, lvAt sm < lvAt (.dma (recvS k))) :
    (levAts L lv : sProp 𝕄) ⊢ MayWait (c : Thread nD τ) sm () (oweFrom c l) :=
  MayOwe.of_cut (L := L) (lev := lv) (lvAt sm) (fun p hp => by rw [Finset.mem_singleton.mp hp, L_tc]; exact Finset.mem_singleton_self _)
    (fun g u hg => by obtain ⟨k, -, rfl⟩ := oweFrom_pos hg; exact Finset.mem_singleton_self _)
    (fun p hp => by rw [Finset.mem_singleton.mp hp]; exact le_refl _)
    (fun g u hg => by obtain ⟨k, hk, rfl⟩ := oweFrom_pos hg; exact hl k hk)

/-! ## The shared records -/

/-- Every cell's invariant, under the names `K`, and that every cell is at its round: all devices know all of them. -/
def records (K : Dev nD × Fin 13 → ℕ) : sProp 𝕄 :=
  iprop((bigSep Finset.univ fun ck : Dev nD × Fin 13 => cellInv ER (Rd X) (K ck) (kcell ck))
    ∗ bigSep Finset.univ fun ck : Dev nD × Fin 13 => reached ER (kcell ck) 0)

instance records_persistent (K : Dev nD × Fin 13 → ℕ) : BI.Persistent (records X K) := by unfold records; infer_instance

theorem rec_at (K : Dev nD × Fin 13 → ℕ) (ck : Dev nD × Fin 13) (g : GSem nD τ sig) (hg : kcell ck = g) :
    records X K ⊢ iprop(cellInv ER (Rd X) (K ck) g ∗ reached ER g 0) := by
  subst hg
  exact BI.sep_mono (bigSep_elim (Finset.mem_univ ck)) (bigSep_elim (Finset.mem_univ ck))

theorem kcell_bar (c : Dev nD) : kcell (c, 0) = barCell c := congrArg (Prod.mk _) csem_bar
theorem kcell_send (k : Fin 6) (c : Dev nD) : kcell (c, sIx k) = sendCell k c := congrArg (Prod.mk _) (csem_send k)
theorem kcell_recv (k : Fin 6) (c : Dev nD) : kcell (c, rIx k) = recvCell k c := congrArg (Prod.mk _) (csem_recv k)

/-- What device `c` owes, whatever it has waited for so far. -/
def due (c : Dev nD) (O : CellTallies nD τ sig Unit) : sProp 𝕄 := iprop(∃ W, owes (c : Thread nD τ) O W)

end Cert.KernelIdeal.Ring
-- ==== Proof.KernelIdeal.Steps.lean ====
/-
What each kind of operation of the kernel does to what a device holds: the two barrier signals and the barrier wait, a
transfer, a wait for one, a load and a store. Each is stated for every place it occurs.
-/
module

public import proofs.«01_k».proof.Proof.KernelIdeal.Protocol

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Vec F S256x1024 .bf16) (K : Dev nD × Fin 13 → ℕ)

/-- The program `p` on device `c`, to end in `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- The right to pay one of the two units of device `c`'s barrier. -/
def barTok (c : Dev nD) (b : Bool) : sProp 𝕄 := dutyTok ER (barCell c) 0 b

/-- The device a barrier unit of device `d` comes from, and the slot it hands over. -/
def payer (d : Dev nD) (b : Bool) : Dev nD := if b then nxt d else prv d
def slotOf (b : Bool) : ℕ := if b then 0 else 1

theorem barPay_eq (d : Dev nD) (b : Bool) : barPay (F := F) d b = handed d (payer d b) (slotOf b) := by cases b <;> rfl

/-- A signal to a neighbour's barrier, with the room for that neighbour's transfers. -/
theorem step_signal (c d n : Dev nD) (b : Bool) (hn : n = d) (hc : payer d b = c) {k' : ℕ} (hk : k' = 1) (O : CellTallies nD τ sig Unit)
    {α : Type} {Q : α → sProp 𝕄} {k : PUnit → Prog (TpuEff nD τ sig (Elt F) Λ₀ .tc) α} :
    iprop(records X K ∗ due c (O + tallyAt (barCell d) () 1) ∗ barTok d b ∗ handed (F := F) d c (slotOf b))
      ⊢ iprop((due c O -∗ run c (k ⟨⟩) Q) -∗ run c (.op (.semSignal (n : Thread nD τ) barS k') k) Q) := by
  subst hn hk
  unfold due barTok
  iintro ⟨#HR, ⟨%W, HO⟩, Ht, Hp⟩ Hk
  ihave HRc := (rec_at X K (n, 0) _ (kcell_bar n)) $$ HR
  icases HRc with ⟨#HI, #Hr⟩
  iapply (Rounds.wp_signal 𝒱₀ ER (Rd X) (c : Thread nD τ) none (dst := (n : Thread nD τ)) (κ := K (n, 0)) (d := b)
      (by rw [duties_bar]; exact Finset.mem_univ _) (amount_bar X n b) () O rfl) $$ [HO Ht Hp]
  · isplitr; · iexact HI
    isplitl [HO]; · iexact HO
    isplitl [Ht]; · iexact Ht
    isplitl [Hp]
    · rw [payload_bar, barPay_eq, hc]; iexact Hp
    · iexact Hr
  iintro HO
  iapply Hk
  iexists W; iexact HO

/-- The wait for both neighbours: room to send to each. -/
theorem step_barrier (c : Dev nD) (l : List (Fin 6)) {k' : ℕ} (hk : k' = 2)
    {α : Type} {Q : α → sProp 𝕄} {k : PUnit → Prog (TpuEff nD τ sig (Elt F) Λ₀ .tc) α} :
    iprop(records X K ∗ levAts L lv ∗ due c (oweFrom c l) ∗ cred (tallyAt (barCell c) () 2) ∗ atPos ER (barCell c) 0 ∅ 0)
      ⊢ iprop(((due c (oweFrom c l) ∗ semVal (barCell c) 0 ∗ handed (F := F) c (prv c) 1 ∗ handed (F := F) c (nxt c) 0) -∗ run c (k ⟨⟩) Q)
          -∗ run c (.op (.semWait barS k') k) Q) := by
  subst hk
  unfold due
  iintro ⟨#HR, #Hlev, ⟨%W, HO⟩, Hc, Hat⟩ Hk
  ihave HRc := (rec_at X K (c, 0) _ (kcell_bar c)) $$ HR
  icases HRc with ⟨#HI, -⟩
  iapply (Rounds.wp_wait_rest_token 𝒱₀ ER (Rd X) (c : Thread nD τ) none (κ := K (c, 0))
      (wpE_semWait_eq 𝒱₀ (c : Thread nD τ) none Set.univ) (Set.mem_univ _) () (O := oweFrom c l) (W := W) (R := 0) (m := 0) (T := ∅)
      (by rw [expect_bar])) $$ [Hc HO Hat]
  · isplitr; · iexact HI
    isplitl [Hc]; · iexact Hc
    isplitl [HO]; · iexact HO
    isplitr; · iapply (mayWait_ring c (.reg barS) l (fun k _ => lv_recv_pos k)); iexact Hlev
    iexact Hat
  iintro ⟨HO, Hat, -, Hp⟩
  ihave Hp := (Entails.of_eq (rest_bar X c)) $$ Hp
  imod (Rounds.cell_close ER (Rd X) (Set.mem_univ (K (c, 0))) (fun h => h) (R := 0 + 1) (duties_later X (barCell c))) $$ [Hat] with Hz
  · isplitr; · iexact HI
    iexact Hat
  iapply Hk
  isplitl [HO]; · iexists _; iexact HO
  isplitl [Hz]; · iexact Hz
  iexact Hp

/-! ## A transfer -/

/-- Room on device `d` for transfer `k`. -/
def room (k : Fin 6) (d : Dev nD) : sProp 𝕄 :=
  if k.val < 4 then iprop(∃ f : Vec F S1024x1024 .bf16, gPts d (rows (256 * (src k d).val + hOf k) 128) f)
  else iprop(∃ f : Vec F S2x128x1024 .fp8e4m3, hPts d (slot (k.val - 4)) f)

/-- The right to make transfer `k` from device `c`. -/
def toks (k : Fin 6) (c : Dev nD) : sProp 𝕄 :=
  iprop(dutyTok ER (sendCell k c) 0 false ∗ dutyTok ER (recvCell k (tgt k c)) 0 false)

/-- Half a block of `x` sent to a neighbour. -/
theorem step_send_x (k : Fin 6) (hk : k.val < 4) (c n : Dev nD) (hn : n = tgt k c) {off xo : Fin 2 → ℕ} (inb) (xinb)
    (ho : off = ![256 * c.val + hOf k, 0]) (hx : xo = ![hOf k, 0]) {sS sR : DmaSem sig} (hS : sS = sendS k) (hR : sR = recvS k) (l : List (Fin 6))
    {hsc : (gWin off inb : Memref sig (Dev.tc n : Thread nD τ).2.kind .vmem S128x1024 .bf16).view.ref.isScScratch = false}
    {hsrc : (xWin xo xinb).view.WordExact} {hdst : (gWin off inb).view.WordExact}
    {hsem : DmaTarget.Typed .vmem (.dma sR) (.remote (Dev.tc n : Thread nD τ) (gWin off inb : Memref sig (Dev.tc n : Thread nD τ).2.kind .vmem S128x1024 .bf16) (.dma sS) hsc)}
    {α : Type} {Q : α → sProp 𝕄} {kk : PUnit → Prog (TpuEff nD τ sig (Elt F) Λ₀ .tc) α} :
    iprop(records X K ∗ due c (oweFrom c (k :: l)) ∗ toks (F := F) k c ∗ sendPay X k c ∗ room (F := F) k (tgt k c))
      ⊢ iprop(((due c (oweFrom c l) ∗ cred (tallyAt (sendCell k c) () (cnt k))) -∗ run c (kk ⟨⟩) Q)
          -∗ run c (.op (.enqueueDma (xWin xo xinb) (.remote (Dev.tc n : Thread nD τ) (gWin off inb) (.dma sS) hsc) (.dma sR) hsrc hdst hsem) kk) Q) := by
  subst hn hS hR
  unfold due toks room
  rw [if_pos hk, src_tgt]
  iintro ⟨#HR, ⟨%W, HO⟩, ⟨HtS, HtR⟩, Hx, ⟨%fd, Hd⟩⟩ Hk
  ihave HRs := (rec_at X K (c, sIx k) _ (kcell_send k c)) $$ HR
  icases HRs with ⟨#HIs, #Hrs⟩
  ihave HRr := (rec_at X K (tgt k c, rIx k) _ (kcell_recv k (tgt k c))) $$ HR
  icases HRr with ⟨#HIr, #Hrr⟩
  have e₁ : sendPay X k c = ((xWin xo xinb).view.loc (c : Thread nD τ) ↦[(xWin xo xinb).view.set]{qOf k} X c) := by
    unfold sendPay xPts; rw [if_pos hk, xWin_set xinb hx]
  have e₂ : gPts (tgt k c) (rows (256 * c.val + hOf k) 128) fd
      = ((gWin off inb).view.loc (tgt k c : Thread nD τ) ↦[(gWin off inb).view.set]{fullShare} fd) := by
    unfold gPts; rw [gWin_set inb ho]
  ihave Hx := (Entails.of_eq e₁) $$ Hx
  ihave Hd := (Entails.of_eq e₂) $$ Hd
  iapply (Rounds.wp_send_pointsTo 𝒱₀ ER (Rd X) (c : Thread nD τ) none (κ₁ := K (c, sIx k)) (κ₂ := K (tgt k c, rIx k))
    (r₁ := 0) (r₂ := 0) (d₁ := false) (d₂ := false) (fd := fd)
    (by rw [duties_send]; exact Finset.mem_singleton_self _) (by rw [duties_recv]; exact Finset.mem_singleton_self _)
    () () (cnt k) (by unfold cnt; rw [if_pos hk]; rfl) (amount_send X c k false) (amount_recv X (tgt k c) k false) (oweFrom c l) rfl (W := W)
    (by rw [payload_send, e₁])
    (by rw [payload_recv]; unfold recvPay; rw [if_pos hk, src_tgt, ← gPts_congr (tgt k c) (landed_eq X (near_tgt k c) (hOf_le k) inb xinb ho hx fd)]
        unfold gPts; rw [gWin_set inb ho])) $$ [HO HtS HtR Hx Hd]
  · isplitr; · iexact HIs
    isplitr; · iexact HIr
    isplitl [Hx]; · iexact Hx
    isplitl [Hd]; · iexact Hd
    isplitl [HO]; · iexact HO
    isplitl [HtS]; · iexact HtS
    isplitr; · iexact Hrs
    isplitl [HtR]; · iexact HtR
    iexact Hrr
  iintro ⟨Hc, HO⟩
  iapply Hk
  isplitl [HO]; · iexists W; iexact HO
  iexact Hc

theorem fwd_slot (k : Fin 6) (hk : ¬ k.val < 4) (c : Dev nD) : ∀ i ∈ slot (k.val - 4), forwarded X c i = narrowed X (opp (tgt k c)) i := by
  have h : k = 4 ∨ k = 5 := by revert k; decide
  intro i hi
  rw [mem_slot] at hi
  unfold forwarded
  rcases h with rfl | rfl
  · rw [if_pos (by rw [hi]; rfl), show opp (tgt 4 c) = prv c from by revert c; decide]
  · rw [if_neg (by rw [hi]; decide), show opp (tgt 5 c) = nxt c from by revert c; decide]

/-- A narrowed half block sent on. -/
theorem step_send_f (k : Fin 6) (hk : ¬ k.val < 4) (c n : Dev nD) (hn : n = tgt k c) {s : ℕ} (hs : k.val - 4 = s) (inb) (inb')
    {sS sR : DmaSem sig} (hS : sS = sendS k) (hR : sR = recvS k) (l : List (Fin 6))
    {hsc : (hWin s inb : Memref sig (Dev.tc n : Thread nD τ).2.kind .vmem S128x1024 .fp8e4m3).view.ref.isScScratch = false}
    {hsrc : (fWin s inb').view.WordExact} {hdst : (hWin s inb).view.WordExact}
    {hsem : DmaTarget.Typed .vmem (.dma sR) (.remote (Dev.tc n : Thread nD τ) (hWin s inb : Memref sig (Dev.tc n : Thread nD τ).2.kind .vmem S128x1024 .fp8e4m3) (.dma sS) hsc)}
    {α : Type} {Q : α → sProp 𝕄} {kk : PUnit → Prog (TpuEff nD τ sig (Elt F) Λ₀ .tc) α} :
    iprop(records X K ∗ due c (oweFrom c (k :: l)) ∗ toks (F := F) k c ∗ sendPay X k c ∗ room (F := F) k (tgt k c))
      ⊢ iprop(((due c (oweFrom c l) ∗ cred (tallyAt (sendCell k c) () (cnt k))) -∗ run c (kk ⟨⟩) Q)
          -∗ run c (.op (.enqueueDma (fWin s inb') (.remote (Dev.tc n : Thread nD τ) (hWin s inb) (.dma sS) hsc) (.dma sR) hsrc hdst hsem) kk) Q) := by
  subst hn hS hR hs
  unfold due toks room
  rw [if_neg hk]
  iintro ⟨#HR, ⟨%W, HO⟩, ⟨HtS, HtR⟩, Hx, ⟨%fd, Hd⟩⟩ Hk
  ihave HRs := (rec_at X K (c, sIx k) _ (kcell_send k c)) $$ HR
  icases HRs with ⟨#HIs, #Hrs⟩
  ihave HRr := (rec_at X K (tgt k c, rIx k) _ (kcell_recv k (tgt k c))) $$ HR
  icases HRr with ⟨#HIr, #Hrr⟩
  have e₁ : sendPay X k c = ((fWin (k.val - 4) inb').view.loc (c : Thread nD τ) ↦[(fWin (k.val - 4) inb').view.set]{fullShare} forwarded X c) := by
    unfold sendPay fPts; rw [if_neg hk, fWin_set]
  have e₂ : hPts (tgt k c) (slot (k.val - 4)) fd
      = ((hWin (k.val - 4) inb).view.loc (tgt k c : Thread nD τ) ↦[(hWin (k.val - 4) inb).view.set]{fullShare} fd) := by
    unfold hPts; rw [hWin_set]
  ihave Hx := (Entails.of_eq e₁) $$ Hx
  ihave Hd := (Entails.of_eq e₂) $$ Hd
  iapply (Rounds.wp_send_pointsTo 𝒱₀ ER (Rd X) (c : Thread nD τ) none (κ₁ := K (c, sIx k)) (κ₂ := K (tgt k c, rIx k))
    (r₁ := 0) (r₂ := 0) (d₁ := false) (d₂ := false) (fd := fd)
    (by rw [duties_send]; exact Finset.mem_singleton_self _) (by rw [duties_recv]; exact Finset.mem_singleton_self _)
    () () (cnt k) (by unfold cnt; rw [if_neg hk]; rfl) (amount_send X c k false) (amount_recv X (tgt k c) k false) (oweFrom c l) rfl (W := W)
    (by rw [payload_send, e₁])
    (by rw [payload_recv]; unfold recvPay
        rw [if_neg hk, ← hPts_congr (tgt k c) (forwarded_landed X c (opp (tgt k c)) (k.val - 4) inb inb' (fwd_slot X k hk c) fd)]
        unfold hPts; rw [hWin_set])) $$ [HO HtS HtR Hx Hd]
  · isplitr; · iexact HIs
    isplitr; · iexact HIr
    isplitl [Hx]; · iexact Hx
    isplitl [Hd]; · iexact Hd
    isplitl [HO]; · iexact HO
    isplitl [HtS]; · iexact HtS
    isplitr; · iexact Hrs
    isplitl [HtR]; · iexact HtR
    iexact Hrr
  iintro ⟨Hc, HO⟩
  iapply Hk
  isplitl [HO]; · iexists W; iexact HO
  iexact Hc

/-! ## Waits for transfers -/

/-- What a wait asks for is what the transfer adds, whichever end of it the wait names. -/
theorem credit_g (k : Fin 6) (hk : k.val < 4) {off : Fin 2 → ℕ} (inb) : (gWin off inb).view.dmaCredit = cnt k := by unfold cnt; rw [if_pos hk]; rfl
theorem credit_x (k : Fin 6) (hk : k.val < 4) {off : Fin 2 → ℕ} (inb) : (xWin off inb).view.dmaCredit = cnt k := by unfold cnt; rw [if_pos hk]; rfl
theorem credit_h (k : Fin 6) (hk : ¬ k.val < 4) {s : ℕ} (inb) : (hWin s inb).view.dmaCredit = cnt k := by unfold cnt; rw [if_neg hk]; rfl
theorem credit_f (k : Fin 6) (hk : ¬ k.val < 4) {s : ℕ} (inb) : (fWin s inb).view.dmaCredit = cnt k := by unfold cnt; rw [if_neg hk]; rfl

/-- Waiting for transfer `k` to have arrived. -/
theorem step_recv (k : Fin 6) (c : Dev nD) (l : List (Fin 6)) (hl : ∀ k' ∈ l, lvAt (.dma (recvS k)) < lvAt (.dma (recvS k'))) {sR : DmaSem sig} (hR : sR = recvS k)
    {sp sp' : Space} {s s' : Shape} {e e' : EltTy} {κ' : Kind} {src : Memref sig .tc sp' s' e'} {dst : Memref sig κ' sp s e}
    {hsrc : src.view.WordExact} {hdst : dst.view.WordExact} (hN : dst.view.dmaCredit = cnt k)
    {α : Type} {Q : α → sProp 𝕄} {kk : PUnit → Prog (TpuEff nD τ sig (Elt F) Λ₀ .tc) α} :
    iprop(records X K ∗ levAts L lv ∗ due c (oweFrom c l) ∗ cred (tallyAt (recvCell k c) () (cnt k)) ∗ atPos ER (recvCell k c) 0 ∅ 0)
      ⊢ iprop(((due c (oweFrom c l) ∗ semVal (recvCell k c) 0 ∗ recvPay X k c) -∗ run c (kk ⟨⟩) Q)
          -∗ run c (.op (.waitDma2 sR src dst hsrc hdst) kk) Q) := by
  subst hR
  unfold due
  iintro ⟨#HR, #Hlev, ⟨%W, HO⟩, Hc, Hat⟩ Hk
  ihave HRc := (rec_at X K (c, rIx k) _ (kcell_recv k c)) $$ HR
  icases HRc with ⟨#HI, -⟩
  rw [← hN]
  iapply (Rounds.wp_wait_rest_token 𝒱₀ ER (Rd X) (c : Thread nD τ) none (κ := K (c, rIx k))
      (wpE_waitDma2_eq 𝒱₀ (c : Thread nD τ) none Set.univ) (Set.mem_univ _) () (O := oweFrom c l) (W := W) (R := 0) (m := 0) (T := ∅)
      (by rw [Nat.zero_add, expect_recv, hN])) $$ [Hc HO Hat]
  · isplitr; · iexact HI
    isplitl [Hc]; · iexact Hc
    isplitl [HO]; · iexact HO
    isplitr; · iapply (mayWait_ring c (.dma (recvS k)) l hl); iexact Hlev
    iexact Hat
  iintro ⟨HO, Hat, -, Hp⟩
  ihave Hp := (Entails.of_eq (rest_recv X c k)) $$ Hp
  imod (Rounds.cell_close ER (Rd X) (Set.mem_univ (K (c, rIx k))) (fun h => h) (R := 0 + 1) (duties_later X (recvCell k c))) $$ [Hat] with Hz
  · isplitr; · iexact HI
    iexact Hat
  iapply Hk
  isplitl [HO]; · iexists _; iexact HO
  isplitl [Hz]; · iexact Hz
  iexact Hp

/-- Waiting for transfer `k` to have left. -/
theorem step_left (k : Fin 6) (c : Dev nD) {sS : DmaSem sig} (hS : sS = sendS k)
    {sp sp' : Space} {s s' : Shape} {e e' : EltTy} {κ' : Kind} {src : Memref sig .tc sp' s' e'} {dst : Memref sig κ' sp s e}
    {hsrc : src.view.WordExact} {hdst : dst.view.WordExact} (hN : dst.view.dmaCredit = cnt k)
    {α : Type} {Q : α → sProp 𝕄} {kk : PUnit → Prog (TpuEff nD τ sig (Elt F) Λ₀ .tc) α} :
    iprop(records X K ∗ due c (oweFrom c []) ∗ cred (tallyAt (sendCell k c) () (cnt k)) ∗ atPos ER (sendCell k c) 0 ∅ 0)
      ⊢ iprop(((due c (oweFrom c []) ∗ semVal (sendCell k c) 0 ∗ sendPay X k c) -∗ run c (kk ⟨⟩) Q)
          -∗ run c (.op (.waitDma2 sS src dst hsrc hdst) kk) Q) := by
  subst hS
  unfold due oweFrom
  iintro ⟨#HR, ⟨%W, HO⟩, Hc, Hat⟩ Hk
  ihave HRc := (rec_at X K (c, sIx k) _ (kcell_send k c)) $$ HR
  icases HRc with ⟨#HI, -⟩
  rw [← hN]
  iapply (Rounds.wp_wait_rest_token 𝒱₀ ER (Rd X) (c : Thread nD τ) none (κ := K (c, sIx k))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (rest_send X c k)) $$ Hp
  imod (Rounds.cell_close ER (Rd X) (Set.mem_univ (K (c, sIx k))) (fun h => h) (R := 0 + 1) (duties_later X (sendCell k c))) $$ [Hat] with Hz
  · isplitr; · iexact HI
    iexact Hat
  iapply Hk
  isplitl [HO]; · iexists _; iexact HO
  isplitl [Hz]; · iexact Hz
  iexact Hp

end Cert.KernelIdeal.Ring
-- ==== Proof.KernelIdeal.Memory.lean ====
/-
What each load and store of the kernel does to what a device holds of its buffers.
-/
module

public import proofs.«01_k».proof.Proof.KernelIdeal.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x1024 .bf16)

/-- Device `c`'s block of `w`. -/
def wPts (c : Dev nD) (f : Vec F S1024x256 .bf16) : sProp 𝕄 := wM.view.loc (c : Thread nD τ) ↦{fullShare} f
/-- Device `c`'s block of the result. -/
def oPts (c : Dev nD) (f : Vec F S1024x256 .f32) : sProp 𝕄 := oM.view.loc (c : Thread nD τ) ↦{fullShare} f

/-- A load through a rectangle of a whole buffer touches the rectangle. -/
theorem load_set (b : Ref sig .tc) (r : Rect b.ty.shape) : (Memref.whole b).view.setOn r.toLoadRect.set = r.set :=
  (View.set_slice (View.whole b) r).symm.trans (View.set_slice_whole b r)
/-- A store too. -/
theorem store_set (b : Ref sig .tc) (r : Rect b.ty.shape) : ((Memref.whole b).access r).setOn Finset.univ = r.set :=
  (View.setOn_univ _).trans (View.set_slice_whole b r)

theorem zero_off : (![0, 0] : Fin 2 → ℕ) = fun _ => 0 := funext fun a => by fin_cases a <;> rfl

section
variable (c : Dev nD) {α : Type}

/-- A load that reads `v`. -/
theorem step_load {cs : CoreSpace} {s : Shape} {e : EltTy} {m : Memref sig .tc cs s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) {v : r.shape.Idx → Elt F e} (hv : m.view.readAt (Elt F) r f = v)
    {Q : α → sProp 𝕄} {k : (r.shape.Idx → Elt F e) → Prog (TpuEff nD τ sig (Elt F) Λ₀ .tc) α} :
    (m.view.loc (c : Thread nD τ) ↦[S]{q} f) ⊢ iprop(((m.view.loc (c : Thread nD τ) ↦[S]{q} f) -∗ run c (k v) Q) -∗ run c (.op (.load m r hl) k) Q) := by
  subst hv
  exact wp_load 𝒱₀ (c : Thread nD τ) none Set.univ hS

/-- The load of this device's block of `x`. -/
theorem step_load_x (q : PosShare TreeShare) (f : Vec F S256x1024 .bf16) (inb) {hl}
    {Q : α → sProp 𝕄} {k : Vec F S256x1024 .bf16 → Prog (TpuEff nD τ sig (Elt F) Λ₀ .tc) α} :
    xPts c Finset.univ q f ⊢ iprop((xPts c Finset.univ q f -∗ run c (k f) Q)
      -∗ run c (.op (.load xM (Rect.unit (s := S256x1024) ![0, 0] S256x1024.size inb).toLoadRect hl) k) Q) :=
  step_load c (m := xM) (Finset.subset_univ _) (Memref.readAt_unit_zero (Elt F) cc0_stg0_0 zero_off _ f)

/-- The load of this device's block of `w`. -/
theorem step_load_w (f : Vec F S1024x256 .bf16) (inb) {hl}
    {Q : α → sProp 𝕄} {k : Vec F S1024x256 .bf16 → Prog (TpuEff nD τ sig (Elt F) Λ₀ .tc) α} :
    wPts c f ⊢ iprop((wPts c f -∗ run c (k f) Q)
      -∗ run c (.op (.load wM (Rect.unit (s := S1024x256) ![0, 0] S1024x256.size inb).toLoadRect hl) k) Q) :=
  step_load c (m := wM) (Finset.subset_univ _) (Memref.readAt_unit_zero (Elt F) cc0_stg1_0 zero_off _ f)

/-- A block of the result is loaded, which is not used, and stored. -/
theorem step_out (f : Vec F S1024x256 .f32) (v : Vec F S256x256 .f32) {off : Fin 2 → ℕ} (inb) {hl} {hx} {hm}
    {Q : α → sProp 𝕄} {k : PUnit → Prog (TpuEff nD τ sig (Elt F) Λ₀ .tc) α} :
    oPts c f ⊢ iprop((oPts c ((oM.access (Rect.unit (s := S1024x256) off S256x256.size inb)).write (Elt F) f v Finset.univ) -∗ run c (k ⟨⟩) Q)
      -∗ run c (.op (.load oM (Rect.unit (s := S1024x256) off S256x256.size inb).toLoadRect hl)
          fun _ => .op (.store oM (Rect.unit (s := S1024x256) off S256x256.size inb) v Finset.univ hx hm) k) Q) := by
  unfold oPts
  iintro Ho Hk
  iapply (wp_load 𝒱₀ (c : Thread nD τ) none Set.univ (m := oM) (Finset.subset_univ _)) $$ Ho; iintro Ho
  iapply (wp_store 𝒱₀ (c : Thread nD τ) none Set.univ (m := oM) (r := Rect.unit (s := S1024x256) off S256x256.size inb) (Mk := Finset.univ)
    (Finset.subset_univ _)) $$ Ho; iintro Ho
  iapply Hk; iexact Ho

/-- A whole block of the gathered `x` is loaded. -/
theorem step_load_block (d : Dev nD) {off : Fin 2 → ℕ} (inb) (ho : off = ![256 * d.val, 0]) {hl}
    {Q : α → sProp 𝕄} {k : Vec F S256x1024 .bf16 → Prog (TpuEff nD τ sig (Elt F) Λ₀ .tc) α} :
    gPts c (rows (256 * d.val) 256) (gathered X c) ⊢ iprop((gPts c (rows (256 * d.val) 256) (gathered X c) -∗ run c (k (full X c d)) Q)
      -∗ run c (.op (.load gM (Rect.unit (s := S1024x1024) off S256x1024.size inb).toLoadRect hl) k) Q) :=
  step_load c (m := gM)
    (by rw [load_set, rect_rows (n := 256) (d := ![1024, 1024]) inb ho rfl rfl]) (load_block X c d inb ho)

/-- Half a block of the gathered `x` is loaded. -/
theorem step_load_half {d : Dev nD} (hne : d ≠ opp c) {h : ℕ} (hh : h + 128 ≤ 256) {off : Fin 2 → ℕ} (inb)
    (ho : off = ![256 * d.val + h, 0]) {hl} {Q : α → sProp 𝕄} {k : Vec F S128x1024 .bf16 → Prog (TpuEff nD τ sig (Elt F) Λ₀ .tc) α} :
    gPts c (rows (256 * d.val + h) 128) (gathered X c) ⊢ iprop((gPts c (rows (256 * d.val + h) 128) (gathered X c) -∗ run c (k (half X d h hh)) Q)
      -∗ run c (.op (.load gM (Rect.unit (s := S1024x1024) off S128x1024.size inb).toLoadRect hl) k) Q) :=
  step_load c (m := gM)
    (by rw [load_set, rect_rows (n := 128) (d := ![1024, 1024]) inb ho rfl rfl]) (load_half X hne hh inb ho)

/-- Half a block is loaded, narrowed and put in a slot to forward; what the slot held is loaded and not used. -/
theorem step_narrow (k : Fin 6) (hk : ¬ k.val < 4) {s : ℕ} (hs : k.val - 4 = s) {d : Dev nD} (hd : opp (tgt k c) = d) {hh : 128 * s + 128 ≤ 256}
    {w : Vec F S1x128x1024 .fp8e4m3} (hw : w = k0_pay5 (half X d (128 * s) hh)) (inb) {hl} {hx} {hm}
    {Q : α → sProp 𝕄} {kk : PUnit → Prog (TpuEff nD τ sig (Elt F) Λ₀ .tc) α} (f : Vec F S2x128x1024 .fp8e4m3) :
    fPts c (slot s) f ⊢ iprop((sendPay X k c -∗ run c (kk ⟨⟩) Q)
      -∗ run c (.op (.load fM (Rect.unit (s := S2x128x1024) ![s, 0, 0] S1x128x1024.size inb).toLoadRect hl)
          fun _ => .op (.store fM (Rect.unit (s := S2x128x1024) ![s, 0, 0] S1x128x1024.size inb)
            w Finset.univ hx hm) kk) Q) := by
  subst hs hd hw
  have e : sendPay X k c = (fM.view.loc (c : Thread nD τ) ↦[slot (k.val - 4)]{fullShare} (fM.access (Rect.unit (s := S2x128x1024) ![k.val - 4, 0, 0] S1x128x1024.size inb)).write (Elt F) f
      (k0_pay5 (half X (opp (tgt k c)) (128 * (k.val - 4)) hh)) Finset.univ) := by
    unfold sendPay; rw [if_neg hk]
    exact fPts_congr c fun i hi => (fwd_slot X k hk c i hi).trans (narrowed_store X _ _ inb hh f i hi).symm
  have hS := rect_slot (k.val - 4) inb
  iintro Hf Hk
  ihave Hf := (Entails.of_eq (show fPts c (slot (k.val - 4)) f = (fM.view.loc (c : Thread nD τ) ↦[slot (k.val - 4)]{fullShare} f) from rfl)) $$ Hf
  iapply (wp_load 𝒱₀ (c : Thread nD τ) none Set.univ (m := fM) (S := slot (k.val - 4)) (by rw [load_set, hS])) $$ Hf; iintro Hf
  iapply (wp_store 𝒱₀ (c : Thread nD τ) none Set.univ (m := fM) (r := Rect.unit (s := S2x128x1024) ![k.val - 4, 0, 0] S1x128x1024.size inb) (Mk := Finset.univ)
    (S := slot (k.val - 4)) (by rw [store_set, hS])) $$ Hf; iintro Hf
  iapply Hk
  ihave Hf := (Entails.of_eq e.symm) $$ Hf
  iexact Hf

/-- A slot that was forwarded here is loaded. -/
theorem step_load_slot (s : ℕ) (f : Vec F S2x128x1024 .fp8e4m3) (inb) {hl} {Q : α → sProp 𝕄} {k : Vec F S1x128x1024 .fp8e4m3 → Prog (TpuEff nD τ sig (Elt F) Λ₀ .tc) α} :
    hPts c (slot s) f ⊢ iprop((hPts c (slot s) f
        -∗ run c (k (hM.view.readAt (Elt F) (Rect.unit (s := S2x128x1024) ![s, 0, 0] S1x128x1024.size inb).toLoadRect f)) Q)
      -∗ run c (.op (.load hM (Rect.unit (s := S2x128x1024) ![s, 0, 0] S1x128x1024.size inb).toLoadRect hl) k) Q) :=
  wp_load (defs := defs₀ (F := F)) 𝒱₀ (c : Thread nD τ) none Set.univ (m := hM) (S := slot s) (q := fullShare) (f := f) (hl := hl) (k := k) (Q := Q)
    (by rw [load_set, rect_slot])

/-- Rows of the gathered buffer are loaded, whatever they hold. -/
theorem step_load_any {lo : ℕ} {off : Fin 2 → ℕ} (inb) (ho : off = ![lo, 0]) {hl}
    {Q : α → sProp 𝕄} {k : Vec F S128x1024 .bf16 → Prog (TpuEff nD τ sig (Elt F) Λ₀ .tc) α} (f : Vec F S1024x1024 .bf16) :
    gPts c (rows lo 128) f ⊢ iprop((gPts c (rows lo 128) f
        -∗ run c (k (gM.view.readAt (Elt F) (Rect.unit (s := S1024x1024) off S128x1024.size inb).toLoadRect f)) Q)
      -∗ run c (.op (.load gM (Rect.unit (s := S1024x1024) off S128x1024.size inb).toLoadRect hl) k) Q) :=
  wp_load (defs := defs₀ (F := F)) 𝒱₀ (c : Thread nD τ) none Set.univ (m := gM) (r := (Rect.unit (s := S1024x1024) off S128x1024.size inb).toLoadRect)
    (S := rows lo 128) (q := fullShare) (f := f) (hl := hl) (k := k) (Q := Q)
    (by rw [load_set, rect_rows (n := 128) (d := ![1024, 1024]) inb ho rfl rfl])

/-- A forwarded slot is widened into its rows of the gathered buffer. -/
theorem step_widen (s : ℕ) (hinb) {off : Fin 2 → ℕ} (inb) (ho : off = ![256 * (opp c).val + 128 * s, 0]) (hh : 128 * s + 128 ≤ 256) {w : Vec F S128x1024 .bf16}
    (hw : w = k0_pay9 (hM.view.readAt (Elt F) (Rect.unit (s := S2x128x1024) ![s, 0, 0] S1x128x1024.size hinb).toLoadRect (narrowed X (opp c)))) {hx} {hm}
    {Q : α → sProp 𝕄} {k : PUnit → Prog (TpuEff nD τ sig (Elt F) Λ₀ .tc) α} (f : Vec F S1024x1024 .bf16) :
    gPts c (rows (256 * (opp c).val + 128 * s) 128) f ⊢ iprop((gPts c (rows (256 * (opp c).val + 128 * s) 128) (gathered X c) -∗ run c (k ⟨⟩) Q)
      -∗ run c (.op (.store gM (Rect.unit (s := S1024x1024) off S128x1024.size inb)
          w Finset.univ hx hm) k) Q) := by
  subst hw
  rw [← gPts_congr c (widened_store X c s hinb inb ho hh f)]
  exact wp_store (defs := defs₀ (F := F)) 𝒱₀ (c : Thread nD τ) none Set.univ (m := gM) (r := Rect.unit (s := S1024x1024) off S128x1024.size inb) (Mk := Finset.univ)
    (S := rows (256 * (opp c).val + 128 * s) 128) (f := f) (hx := hx) (hm := hm) (k := k) (Q := Q)
    (by rw [store_set, rect_rows (n := 128) (d := ![1024, 1024]) inb ho rfl rfl])

end

end Cert.KernelIdeal.Ring
-- ==== Proof.KernelIdeal.Pieces.lean ====
/-
How the buffers are taken apart before the barrier and put together after the last wait.
-/
module

public import proofs.«01_k».proof.Proof.KernelIdeal.Memory

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x1024 .bf16)

/-! ## The transfers one by one -/

section
variable (c : Dev nD)
theorem left_0 : sendPay X 0 c = xPts c (rows 0 128) fullShare.left.left (X c) := rfl
theorem left_1 : sendPay X 1 c = xPts c (rows 128 128) fullShare.left.left (X c) := rfl
theorem left_2 : sendPay X 2 c = xPts c (rows 128 128) fullShare.left.right (X c) := rfl
theorem left_3 : sendPay X 3 c = xPts c (rows 0 128) fullShare.left.right (X c) := rfl
theorem left_4 : sendPay X 4 c = fPts c (slot 0) (forwarded X c) := rfl
theorem left_5 : sendPay X 5 c = fPts c (slot 1) (forwarded X c) := rfl
theorem came_0 : recvPay X 0 c = gPts c (rows (256 * (prv c).val + 128 * 0) 128) (gathered X c) := rfl
theorem came_1 : recvPay X 1 c = gPts c (rows (256 * (prv c).val + 128) 128) (gathered X c) := rfl
theorem came_2 : recvPay X 2 c = gPts c (rows (256 * (nxt c).val + 128 * 1) 128) (gathered X c) := rfl
theorem came_3 : recvPay X 3 c = gPts c (rows (256 * (nxt c).val) 128) (gathered X c) := rfl
theorem came_4 : recvPay X 4 c = hPts c (slot 0) (narrowed X (opp c)) := rfl
theorem came_5 : recvPay X 5 c = hPts c (slot 1) (narrowed X (opp c)) := rfl
omit [FloatOps F] in
theorem room_x (k : Fin 6) (hk : k.val < 4) (lo : ℕ) (hlo : 256 * (src k c).val + hOf k = lo) (f : Vec F S1024x1024 .bf16) :
    gPts c (rows lo 128) f ⊢ room (F := F) k c := by
  subst hlo; unfold room; rw [if_pos hk]
  iintro H; iexists f; iexact H
omit [FloatOps F] in
theorem room_f (k : Fin 6) (hk : ¬ k.val < 4) (s : ℕ) (hs : k.val - 4 = s) (f : Vec F S2x128x1024 .fp8e4m3) :
    hPts c (slot s) f ⊢ room (F := F) k c := by
  subst hs; unfold room; rw [if_neg hk]
  iintro H; iexists f; iexact H
end

/-! ## The block of `x`: a share to load at, and the four halves that are sent -/

omit [FloatOps F] in
theorem x_share (c : Dev nD) (q : PosShare TreeShare) (S : Finset S256x1024.Idx) (f : Vec F S256x1024 .bf16) :
    xPts c S q f ⊣⊢ iprop(xPts c S q.left f ∗ xPts c S q.right f) := pointsTo_share (PosShare.mem_left_op_right q)

omit [FloatOps F] in
theorem x_halves (c : Dev nD) (q : PosShare TreeShare) (f : Vec F S256x1024 .bf16) :
    xPts c Finset.univ q f ⊣⊢ iprop(xPts c (rows 0 128) q f ∗ xPts c (rows 128 128) q f) := by
  unfold xPts
  rw [show (Finset.univ : Finset S256x1024.Idx) = rows (d := ![256, 1024]) 0 128 ∪ rows 128 128 from by
    ext i; rw [Finset.mem_union, mem_rows, mem_rows]
    have h : (i 0).val < 256 := (i 0).isLt
    exact ⟨fun _ => by omega, fun _ => Finset.mem_univ _⟩]
  exact pointsTo_union (rows_disjoint (Or.inl le_rfl))

theorem x_split (c : Dev nD) :
    xPts c Finset.univ fullShare (X c) ⊢ iprop(xPts c Finset.univ fullShare.right (X c)
      ∗ sendPay X 0 c ∗ sendPay X 1 c ∗ sendPay X 2 c ∗ sendPay X 3 c) := by
  rw [left_0, left_1, left_2, left_3]
  iintro H
  ihave H := (x_share c fullShare Finset.univ (X c)).1 $$ H
  icases H with ⟨Hl, Hr⟩
  ihave H := (x_share c fullShare.left Finset.univ (X c)).1 $$ Hl
  icases H with ⟨Hll, Hlr⟩
  ihave H := (x_halves c fullShare.left.left (X c)).1 $$ Hll
  icases H with ⟨H0, H1⟩
  ihave H := (x_halves c fullShare.left.right (X c)).1 $$ Hlr
  icases H with ⟨H3, H2⟩
  isplitl [Hr]; · iexact Hr
  isplitl [H0]; · iexact H0
  isplitl [H1]; · iexact H1
  isplitl [H2]; · iexact H2
  iexact H3

theorem x_join (c : Dev nD) :
    iprop(xPts c Finset.univ fullShare.right (X c) ∗ sendPay X 0 c ∗ sendPay X 1 c ∗ sendPay X 2 c ∗ sendPay X 3 c)
      ⊢ xPts c Finset.univ fullShare (X c) := by
  rw [left_0, left_1, left_2, left_3]
  iintro ⟨Hr, H0, H1, H2, H3⟩
  iapply (x_share c fullShare Finset.univ (X c)).2
  isplitr [Hr]
  · iapply (x_share c fullShare.left Finset.univ (X c)).2
    isplitl [H0 H1]
    · iapply (x_halves c fullShare.left.left (X c)).2
      isplitl [H0]; · iexact H0
      iexact H1
    · iapply (x_halves c fullShare.left.right (X c)).2
      isplitl [H3]; · iexact H3
      iexact H2
  · iexact Hr

/-! ## The gathered buffer: four blocks -/

omit [FloatOps F] in
theorem g_split (c : Dev nD) (f : Vec F S1024x1024 .bf16) :
    gPts c Finset.univ f ⊢ iprop(gPts c (rows (256 * c.val) 256) f ∗ gPts c (rows (256 * (prv c).val) 256) f
      ∗ gPts c (rows (256 * (nxt c).val) 256) f ∗ gPts c (rows (256 * (opp c).val) 256) f) := by
  have hc : c.val < 4 := c.isLt
  have hp : (prv c).val = (c.val + 3) % 4 := rfl
  have hn : (nxt c).val = (c.val + 1) % 4 := rfl
  have ho : (opp c).val = (c.val + 2) % 4 := rfl
  have hU : (Finset.univ : Finset S1024x1024.Idx) = rows (d := ![1024, 1024]) (256 * c.val) 256
      ∪ (rows (256 * (prv c).val) 256 ∪ (rows (256 * (nxt c).val) 256 ∪ rows (256 * (opp c).val) 256)) := by
    ext i
    rw [Finset.mem_union, Finset.mem_union, Finset.mem_union, mem_rows, mem_rows, mem_rows, mem_rows]
    have h : (i 0).val < 1024 := (i 0).isLt
    exact ⟨fun _ => by omega, fun _ => Finset.mem_univ _⟩
  unfold gPts
  rw [hU]
  refine (pointsTo_union ?_).1.trans (BI.sep_mono (BI.Entails.refl _) ((pointsTo_union ?_).1.trans (BI.sep_mono (BI.Entails.refl _) (pointsTo_union ?_).1)))
  · rw [Finset.disjoint_union_right, Finset.disjoint_union_right]
    exact ⟨rows_disjoint (by omega), rows_disjoint (by omega), rows_disjoint (by omega)⟩
  · rw [Finset.disjoint_union_right]
    exact ⟨rows_disjoint (by omega), rows_disjoint (by omega)⟩
  · exact rows_disjoint (by omega)

/-- Some contents of elements of the gathered buffer. -/
def gAny (c : Dev nD) (S : Finset S1024x1024.Idx) : sProp 𝕄 := iprop(∃ f : Vec F S1024x1024 .bf16, gPts c S f)

omit [FloatOps F] in
theorem gAny_union (c : Dev nD) {S T : Finset S1024x1024.Idx} (h : Disjoint S T) :
    iprop(gAny (F := F) c S ∗ gAny c T) ⊢ gAny (F := F) c (S ∪ T) := by
  unfold gAny gPts
  iintro ⟨⟨%f, Hf⟩, ⟨%g, Hg⟩⟩
  iexists _
  iapply (pointsTo_join h)
  isplitl [Hf] <;> iassumption

omit [FloatOps F] in
theorem g_join (c : Dev nD) :
    iprop(gAny (F := F) c (rows (256 * c.val) 256) ∗ gAny c (rows (256 * (prv c).val) 256)
      ∗ gAny c (rows (256 * (nxt c).val) 256) ∗ gAny c (rows (256 * (opp c).val) 256)) ⊢ gAny (F := F) c Finset.univ := by
  have hc : c.val < 4 := c.isLt
  have hp : (prv c).val = (c.val + 3) % 4 := rfl
  have hn : (nxt c).val = (c.val + 1) % 4 := rfl
  have ho : (opp c).val = (c.val + 2) % 4 := rfl
  have hU : (Finset.univ : Finset S1024x1024.Idx) = rows (d := ![1024, 1024]) (256 * c.val) 256
      ∪ (rows (256 * (prv c).val) 256 ∪ (rows (256 * (nxt c).val) 256 ∪ rows (256 * (opp c).val) 256)) := by
    ext i
    rw [Finset.mem_union, Finset.mem_union, Finset.mem_union, mem_rows, mem_rows, mem_rows, mem_rows]
    have h : (i 0).val < 1024 := (i 0).isLt
    exact ⟨fun _ => by omega, fun _ => Finset.mem_univ _⟩
  rw [hU]
  refine (BI.sep_mono (BI.Entails.refl _) ((BI.sep_mono (BI.Entails.refl _) (gAny_union c ?_)).trans (gAny_union c ?_))).trans (gAny_union c ?_)
  · exact rows_disjoint (by omega)
  · rw [Finset.disjoint_union_right]
    exact ⟨rows_disjoint (by omega), rows_disjoint (by omega)⟩
  · rw [Finset.disjoint_union_right, Finset.disjoint_union_right]
    exact ⟨rows_disjoint (by omega), rows_disjoint (by omega), rows_disjoint (by omega)⟩

/-! ## The narrow buffers: two slots -/

omit [FloatOps F] in
theorem h_split (c : Dev nD) (f : Vec F S2x128x1024 .fp8e4m3) : hPts c Finset.univ f ⊢ iprop(hPts c (slot 0) f ∗ hPts c (slot 1) f) := by
  unfold hPts; rw [← slot_union]; exact (pointsTo_union slot_disjoint).1
omit [FloatOps F] in
theorem f_split (c : Dev nD) (f : Vec F S2x128x1024 .fp8e4m3) : fPts c Finset.univ f ⊢ iprop(fPts c (slot 0) f ∗ fPts c (slot 1) f) := by
  unfold fPts; rw [← slot_union]; exact (pointsTo_union slot_disjoint).1
omit [FloatOps F] in
theorem h_join (c : Dev nD) (f : Vec F S2x128x1024 .fp8e4m3) : iprop(hPts c (slot 0) f ∗ hPts c (slot 1) f) ⊢ hPts c Finset.univ f := by
  unfold hPts; rw [← slot_union]; exact (pointsTo_union slot_disjoint).2
omit [FloatOps F] in
theorem f_join (c : Dev nD) (f : Vec F S2x128x1024 .fp8e4m3) : iprop(fPts c (slot 0) f ∗ fPts c (slot 1) f) ⊢ fPts c Finset.univ f := by
  unfold fPts; rw [← slot_union]; exact (pointsTo_union slot_disjoint).2

/-! ## What a neighbour hands over is room for three transfers -/

omit [FloatOps F] in
theorem rooms_nxt (c : Dev nD) : handed (F := F) c (nxt c) 0 ⊢ iprop(room (F := F) 0 (tgt 0 c) ∗ room (F := F) 1 (tgt 1 c) ∗ room (F := F) 4 (tgt 4 c)) := by
  have e : tgt 0 c = nxt c ∧ tgt 1 c = nxt c ∧ tgt 4 c = nxt c ∧ src 0 (nxt c) = c ∧ src 1 (nxt c) = c := by revert c; decide
  obtain ⟨e₁, e₂, e₃, s₁, s₂⟩ := e
  rw [e₁, e₂, e₃]
  unfold handed
  iintro ⟨⟨%f, Hg⟩, ⟨%g, Hh⟩⟩
  ihave H := (gPts_halves (nxt c) (256 * c.val) f).1 $$ Hg
  icases H with ⟨H0, H1⟩
  isplitl [H0]; · iapply (room_x (nxt c) 0 (by decide) _ (by rw [s₁]) f); iexact H0
  isplitl [H1]; · iapply (room_x (nxt c) 1 (by decide) _ (by rw [s₂]) f); iexact H1
  iapply (room_f (nxt c) 4 (by decide) 0 rfl g); iexact Hh

omit [FloatOps F] in
theorem rooms_prv (c : Dev nD) : handed (F := F) c (prv c) 1 ⊢ iprop(room (F := F) 2 (tgt 2 c) ∗ room (F := F) 3 (tgt 3 c) ∗ room (F := F) 5 (tgt 5 c)) := by
  have e : tgt 2 c = prv c ∧ tgt 3 c = prv c ∧ tgt 5 c = prv c ∧ src 2 (prv c) = c ∧ src 3 (prv c) = c := by revert c; decide
  obtain ⟨e₁, e₂, e₃, s₁, s₂⟩ := e
  rw [e₁, e₂, e₃]
  unfold handed
  iintro ⟨⟨%f, Hg⟩, ⟨%g, Hh⟩⟩
  ihave H := (gPts_halves (prv c) (256 * c.val) f).1 $$ Hg
  icases H with ⟨H3, H2⟩
  isplitl [H2]; · iapply (room_x (prv c) 2 (by decide) _ (by rw [s₁]) f); iexact H2
  isplitl [H3]; · iapply (room_x (prv c) 3 (by decide) _ (by rw [s₂]) f); iexact H3
  iapply (room_f (prv c) 5 (by decide) 1 rfl g); iexact Hh

end Cert.KernelIdeal.Ring
-- ==== Proof.KernelIdeal.PartsA.lean ====
/-
The first half of the kernel: the barrier, the first four transfers, this device's own block of the result, and the two
halves of the neighbours' blocks that are narrowed and sent on.
-/
module

public import proofs.«01_k».proof.Proof.KernelIdeal.Pieces

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x1024 .bf16) (W : Dev nD → Vec F S1024x256 .bf16) (K : Dev nD × Fin 13 → ℕ)

/-- That transfer `k` of device `c` has been made. -/
abbrev sent (k : Fin 6) (c : Dev nD) : sProp 𝕄 := cred (tallyAt (sendCell k c) () (cnt k))
/-- That transfer `k` will come to device `c`. -/
abbrev coming (k : Fin 6) (c : Dev nD) : sProp 𝕄 := iprop(cred (tallyAt (recvCell k c) () (cnt k)) ∗ atPos ER (recvCell k c) 0 ∅ 0)

theorem run_ret (c : Dev nD) {α : Type} (a : α) (Q : α → sProp 𝕄) : Q a ⊢ run c (.ret a) Q := by
  unfold run; rw [wp_ret]; iintro H; imodintro; iexact H

theorem part2 (c : Dev nD) (v2 v13 v24 : BitVec 32) (Kt : PUnit → sProp 𝕄) :
    iprop(records X K ∗ levAts L lv ∗ due c (O₀ c) ∗ barTok (prv c) true ∗ barTok (nxt c) false
        ∗ handed (F := F) (prv c) c 0 ∗ handed (F := F) (nxt c) c 1 ∗ (cred (tallyAt (barCell c) () 2) ∗ atPos ER (barCell c) 0 ∅ 0)
        ∗ toks (F := F) 0 c ∗ sendPay X 0 c
        ∗ ((due c (oweFrom c [2, 1, 3, 4, 5]) ∗ semVal (barCell c) 0 ∗ sent (F := F) 0 c
            ∗ room (F := F) 1 (tgt 1 c) ∗ room (F := F) 2 (tgt 2 c) ∗ room (F := F) 3 (tgt 3 c) ∗ room (F := F) 4 (tgt 4 c) ∗ room (F := F) 5 (tgt 5 c)) -∗ Kt ⟨⟩))
      ⊢ run c (k0_part2 xM (Memref.isWhole_whole _) wM (Memref.isWhole_whole _) oM (Memref.isWhole_whole _) gM (Memref.isWhole_whole _)
          fM (Memref.isWhole_whole _) hM (Memref.isWhole_whole _) cc0_scratch3 cc0_scratch4 c v2 v13 v24) Kt := by
  rw [k0_part2_eq_skeleton]; unfold k0_part2_skel run
  simp only [semSignalWord, semWaitWord, Prog.lift, Prog.bind_op, Prog.bind_ret, Prog.pure_eq_ret]
  iintro ⟨#HR, #Hlev, HO, HtP, HtN, HhP, HhN, ⟨HcB, HatB⟩, Ht0, Hx0, Hk⟩
  unfold O₀
  iapply (step_signal X K c (prv c) _ true (dev1_eq c) (nxt_prv c) rfl (O₁ c)) $$ [HO HtP HhP]
  · isplitr; · iexact HR
    isplitl [HO]; · iexact HO
    isplitl [HtP]; · iexact HtP
    iexact HhP
  iintro HO
  unfold O₁
  iapply (step_signal X K c (nxt c) _ false (dev2_eq c) (prv_nxt c) rfl (oweFrom c order)) $$ [HO HtN HhN]
  · isplitr; · iexact HR
    isplitl [HO]; · iexact HO
    isplitl [HtN]; · iexact HtN
    iexact HhN
  iintro HO
  iapply (step_barrier X K c order rfl) $$ [HO HcB HatB]
  · isplitr; · iexact HR
    isplitr; · iexact Hlev
    isplitl [HO]; · iexact HO
    isplitl [HcB] <;> iassumption
  iintro ⟨HO, HzB, HhP, HhN⟩
  ihave H := (rooms_nxt c) $$ HhN
  icases H with ⟨Hr0, Hr1, Hr4⟩
  ihave H := (rooms_prv c) $$ HhP
  icases H with ⟨Hr2, Hr3, Hr5⟩
  unfold order
  iapply (step_send_x X K 0 (by decide) c _ (dev3_eq c) _ _ (off1_top c) rfl rfl rfl [2, 1, 3, 4, 5]) $$ [HO Ht0 Hx0 Hr0]
  · isplitr; · iexact HR
    isplitl [HO]; · iexact HO
    isplitl [Ht0]; · iexact Ht0
    isplitl [Hx0] <;> iassumption
  iintro ⟨HO, Hs0⟩
  iapply run_ret
  iapply Hk
  isplitl [HO]; · iexact HO
  isplitl [HzB]; · iexact HzB
  isplitl [Hs0]; · iexact Hs0
  isplitl [Hr1]; · iexact Hr1
  isplitl [Hr2]; · iexact Hr2
  isplitl [Hr3]; · iexact Hr3
  isplitl [Hr4] <;> iassumption

theorem part3 (c : Dev nD) (v13 v24 : BitVec 32) (Kt : (Σ' (v87 : FVec F S256x256 .f32) (v95 : FVec F S256x256 .f32), F .f32) → sProp 𝕄) :
    iprop(records X K ∗ due c (oweFrom c [2, 1, 3, 4, 5]) ∗ toks (F := F) 2 c ∗ sendPay X 2 c ∗ room (F := F) 2 (tgt 2 c) ∗ toks (F := F) 1 c ∗ sendPay X 1 c ∗ room (F := F) 1 (tgt 1 c) ∗ toks (F := F) 3 c ∗ sendPay X 3 c ∗ room (F := F) 3 (tgt 3 c) ∗ xPts c Finset.univ fullShare.right (X c) ∗ wPts c (W c)
        ∗ ((due c (oweFrom c [4, 5]) ∗ sent (F := F) 2 c ∗ sent (F := F) 1 c ∗ sent (F := F) 3 c ∗ xPts c Finset.univ fullShare.right (X c) ∗ wPts c (W c))
            -∗ Kt ⟨k0_pay2 (X c) (W c), k0_pay3 (X c) (W c), Scalar.ofBits .f32 0x3F800000#32⟩))
      ⊢ run c (k0_part3 xM (Memref.isWhole_whole _) wM (Memref.isWhole_whole _) oM (Memref.isWhole_whole _) gM (Memref.isWhole_whole _)
          fM (Memref.isWhole_whole _) hM (Memref.isWhole_whole _) cc0_scratch3 cc0_scratch4 c v13 v24) Kt := by
  rw [k0_part3_eq_skeleton]; unfold k0_part3_skel run
  simp only [Prog.lift, Prog.bind_op, Prog.bind_ret, Prog.pure_eq_ret]
  iintro ⟨#HR, HO, Ht2, Hx2, Hr2, Ht1, Hx1, Hr1, Ht3, Hx3, Hr3, Hx, Hw, Hk⟩
  iapply (step_send_x X K 2 (by decide) c _ (dev4_eq c) _ _ (off1_bot c) rfl rfl rfl [1, 3, 4, 5]) $$ [HO Ht2 Hx2 Hr2]
  · isplitr; · iexact HR
    isplitl [HO]; · iexact HO
    isplitl [Ht2]; · iexact Ht2
    isplitl [Hx2]; · iexact Hx2
    iexact Hr2
  iintro ⟨HO, Hs2⟩
  iapply (step_send_x X K 1 (by decide) c _ (dev5_eq c) _ _ (off1_bot c) rfl rfl rfl [3, 4, 5]) $$ [HO Ht1 Hx1 Hr1]
  · isplitr; · iexact HR
    isplitl [HO]; · iexact HO
    isplitl [Ht1]; · iexact Ht1
    isplitl [Hx1]; · iexact Hx1
    iexact Hr1
  iintro ⟨HO, Hs1⟩
  iapply (step_send_x X K 3 (by decide) c _ (dev6_eq c) _ _ (off1_top c) rfl rfl rfl [4, 5]) $$ [HO Ht3 Hx3 Hr3]
  · isplitr; · iexact HR
    isplitl [HO]; · iexact HO
    isplitl [Ht3]; · iexact Ht3
    isplitl [Hx3]; · iexact Hx3
    iexact Hr3
  iintro ⟨HO, Hs3⟩
  iapply (step_load_x c fullShare.right (X c) _) $$ Hx; iintro Hx
  iapply (step_load_w c (W c) _) $$ Hw; iintro Hw
  iapply run_ret
  iapply Hk
  isplitl [HO]; · iexact HO
  isplitl [Hs2]; · iexact Hs2
  isplitl [Hs1]; · iexact Hs1
  isplitl [Hs3]; · iexact Hs3
  isplitl [Hx]; · iexact Hx
  iexact Hw

theorem part4 (c : Dev nD) (v2 v13 v24 : BitVec 32) (f : Vec F S1024x256 .f32) (Kt : PUnit → sProp 𝕄) :
    iprop(records X K ∗ levAts L lv ∗ due c (oweFrom c [4, 5]) ∗ oPts c f ∗ coming (F := F) 0 c ∗ (∃ g, fPts c (slot 0) g)
        ∗ ((due c (oweFrom c [4, 5]) ∗ oPts c ((oM.access (Rect.unit (s := S1024x256) (k0_off2 c) S256x256.size (k0_off2_inb c))).write (Elt F) f (act (full X c c) (W c)) Finset.univ) ∗ semVal (recvCell 0 c) 0 ∗ gPts c (rows (256 * (prv c).val) 128) (gathered X c) ∗ sendPay X 4 c)
            -∗ Kt ⟨⟩))
      ⊢ run c (k0_part4 xM (Memref.isWhole_whole _) wM (Memref.isWhole_whole _) oM (Memref.isWhole_whole _) gM (Memref.isWhole_whole _)
          fM (Memref.isWhole_whole _) hM (Memref.isWhole_whole _) cc0_scratch3 cc0_scratch4 c v2 v13 v24 (k0_pay2 (X c) (W c)) (k0_pay3 (X c) (W c)) (Scalar.ofBits .f32 0x3F800000#32)) Kt := by
  rw [k0_part4_eq_skeleton]; unfold k0_part4_skel run
  simp only [Prog.lift, Prog.bind_op, Prog.bind_ret, Prog.pure_eq_ret]
  iintro ⟨#HR, #Hlev, HO, Ho, ⟨Hc0, Ha0⟩, ⟨%g, Hf⟩, Hk⟩
  iapply (step_out c f _ _) $$ Ho; iintro Ho
  iapply (step_recv X K 0 c [4, 5] (by decide) rfl (credit_g 0 (by decide) _)) $$ [HO Hc0 Ha0]
  · isplitr; · iexact HR
    isplitr; · iexact Hlev
    isplitl [HO]; · iexact HO
    isplitl [Hc0]; · iexact Hc0
    iexact Ha0
  iintro ⟨HO, Hz0, Hv0⟩
  ihave Hv0 := (Entails.of_eq (came_0 X c)) $$ Hv0
  iapply (step_load_half X c (d := prv c) (by revert c; decide) (h := 128 * 0) (by decide) _ (off4_top c)) $$ Hv0; iintro Hv0
  iapply (step_narrow X c 4 (by decide) (s := 0) rfl (d := prv c) (by revert c; decide) (hh := by decide) rfl _ g) $$ Hf; iintro Hx4
  ihave Ho := (Entails.of_eq (congrArg (fun v => oPts c ((oM.access (Rect.unit (s := S1024x256) (k0_off2 c) S256x256.size (k0_off2_inb c))).write (Elt F) f v Finset.univ))
    ((act_own (X c) (W c)).trans (congrArg (act · (W c)) (full_near X (show c ≠ opp c by revert c; decide)).symm)))) $$ Ho
  iapply run_ret
  iapply Hk
  isplitl [HO]; · iexact HO
  isplitl [Ho]; · iexact Ho
  isplitl [Hz0]; · iexact Hz0
  isplitl [Hv0]; · iexact Hv0
  iexact Hx4

theorem part5 (c : Dev nD) (v13 v24 : BitVec 32) (Kt : BitVec 32 → sProp 𝕄) :
    iprop(records X K ∗ levAts L lv ∗ due c (oweFrom c [4, 5]) ∗ toks (F := F) 4 c ∗ sendPay X 4 c ∗ room (F := F) 4 (tgt 4 c) ∗ toks (F := F) 5 c ∗ room (F := F) 5 (tgt 5 c) ∗ coming (F := F) 2 c ∗ (∃ g, fPts c (slot 1) g)
        ∗ ((due c (oweFrom c []) ∗ sent (F := F) 4 c ∗ sent (F := F) 5 c ∗ semVal (recvCell 2 c) 0 ∗ gPts c (rows (256 * (nxt c).val + 128) 128) (gathered X c))
            -∗ Kt 256#32))
      ⊢ run c (k0_part5 xM (Memref.isWhole_whole _) wM (Memref.isWhole_whole _) oM (Memref.isWhole_whole _) gM (Memref.isWhole_whole _)
          fM (Memref.isWhole_whole _) hM (Memref.isWhole_whole _) cc0_scratch3 cc0_scratch4 c v13 v24) Kt := by
  rw [k0_part5_eq_skeleton]; unfold k0_part5_skel run
  simp only [Prog.lift, Prog.bind_op, Prog.bind_ret, Prog.pure_eq_ret]
  iintro ⟨#HR, #Hlev, HO, Ht4, Hx4, Hr4, Ht5, Hr5, ⟨Hc2, Ha2⟩, ⟨%g, Hf⟩, Hk⟩
  iapply (step_send_f X K 4 (by decide) c _ (dev7_eq c) (s := 0) rfl _ _ rfl rfl [5]) $$ [HO Ht4 Hx4 Hr4]
  · isplitr; · iexact HR
    isplitl [HO]; · iexact HO
    isplitl [Ht4]; · iexact Ht4
    isplitl [Hx4]; · iexact Hx4
    iexact Hr4
  iintro ⟨HO, Hs4⟩
  iapply (step_recv X K 2 c [5] (by decide) rfl (credit_g 2 (by decide) _)) $$ [HO Hc2 Ha2]
  · isplitr; · iexact HR
    isplitr; · iexact Hlev
    isplitl [HO]; · iexact HO
    isplitl [Hc2]; · iexact Hc2
    iexact Ha2
  iintro ⟨HO, Hz2, Hv2⟩
  ihave Hv2 := (Entails.of_eq (came_2 X c)) $$ Hv2
  iapply (step_load_half X c (d := nxt c) (by revert c; decide) (h := 128 * 1) (by decide) _ (off6_right c)) $$ Hv2; iintro Hv2
  iapply (step_narrow X c 5 (by decide) (s := 1) rfl (d := nxt c) (by revert c; decide) (hh := by decide) (pay6_eq _) _ g) $$ Hf; iintro Hx5
  iapply (step_send_f X K 5 (by decide) c _ (dev8_eq c) (s := 1) rfl _ _ rfl rfl []) $$ [HO Ht5 Hx5 Hr5]
  · isplitr; · iexact HR
    isplitl [HO]; · iexact HO
    isplitl [Ht5]; · iexact Ht5
    isplitl [Hx5]; · iexact Hx5
    iexact Hr5
  iintro ⟨HO, Hs5⟩
  iapply run_ret
  iapply Hk
  isplitl [HO]; · iexact HO
  isplitl [Hs4]; · iexact Hs4
  isplitl [Hs5]; · iexact Hs5
  isplitl [Hz2]; · iexact Hz2
  iexact Hv2

end Cert.KernelIdeal.Ring
-- ==== Proof.KernelIdeal.PartsB.lean ====
/-
The second half of the kernel: the neighbours' blocks of the result, the block from across, and the waits for the transfers
that left.
-/
module

public import proofs.«01_k».proof.Proof.KernelIdeal.PartsA

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x1024 .bf16) (W : Dev nD → Vec F S1024x256 .bf16) (K : Dev nD × Fin 13 → ℕ)

theorem part6 (c : Dev nD) (v13 v24 w : BitVec 32) (f : Vec F S1024x256 .f32) (Kt : PUnit → sProp 𝕄) :
    iprop(records X K ∗ levAts L lv ∗ due c (oweFrom c []) ∗ coming (F := F) 1 c ∗ gPts c (rows (256 * (prv c).val) 128) (gathered X c) ∗ wPts c (W c) ∗ oPts c f
        ∗ ((due c (oweFrom c []) ∗ semVal (recvCell 1 c) 0 ∗ gPts c (rows (256 * (prv c).val) 256) (gathered X c) ∗ wPts c (W c) ∗ oPts c ((oM.access (Rect.unit (s := S1024x256) (k0_off8 c) S256x256.size (k0_off8_inb c))).write (Elt F) f (act (full X c (prv c)) (W c)) Finset.univ))
            -∗ Kt ⟨⟩))
      ⊢ run c (k0_part6 xM (Memref.isWhole_whole _) wM (Memref.isWhole_whole _) oM (Memref.isWhole_whole _) gM (Memref.isWhole_whole _)
          fM (Memref.isWhole_whole _) hM (Memref.isWhole_whole _) cc0_scratch3 cc0_scratch4 c v13 v24 w) Kt := by
  rw [k0_part6_eq_skeleton]; unfold k0_part6_skel run
  simp only [Prog.lift, Prog.bind_op, Prog.bind_ret, Prog.pure_eq_ret]
  iintro ⟨#HR, #Hlev, HO, ⟨Hc1, Ha1⟩, Hv0, Hw, Ho, Hk⟩
  iapply (step_recv X K 1 c [] (by decide) rfl (credit_g 1 (by decide) _)) $$ [HO Hc1 Ha1]
  · isplitr; · iexact HR
    isplitr; · iexact Hlev
    isplitl [HO]; · iexact HO
    isplitl [Hc1]; · iexact Hc1
    iexact Ha1
  iintro ⟨HO, Hz1, Hv1⟩
  ihave Hv1 := (Entails.of_eq (came_1 X c)) $$ Hv1
  ihave Hg := (gPts_halves c (256 * (prv c).val) (gathered X c)).2 $$ [Hv0 Hv1]
  · isplitl [Hv0]; · iexact Hv0
    iexact Hv1
  iapply (step_load_block X c (prv c) _ (off7_left c)) $$ Hg; iintro Hg
  iapply (step_load_w c (W c) _) $$ Hw; iintro Hw
  iapply (step_out c f _ _) $$ Ho; iintro Ho
  iapply run_ret
  iapply Hk
  isplitl [HO]; · iexact HO
  isplitl [Hz1]; · iexact Hz1
  isplitl [Hg]; · iexact Hg
  isplitl [Hw]; · iexact Hw
  iexact Ho

theorem part7 (c : Dev nD) (v13 v24 : BitVec 32) (f : Vec F S1024x256 .f32) (Kt : PUnit → sProp 𝕄) :
    iprop(records X K ∗ levAts L lv ∗ due c (oweFrom c []) ∗ coming (F := F) 3 c ∗ gPts c (rows (256 * (nxt c).val + 128) 128) (gathered X c) ∗ wPts c (W c) ∗ oPts c f
        ∗ ((due c (oweFrom c []) ∗ semVal (recvCell 3 c) 0 ∗ gPts c (rows (256 * (nxt c).val) 256) (gathered X c) ∗ wPts c (W c) ∗ oPts c ((oM.access (Rect.unit (s := S1024x256) (k0_off10 c 1#32) S256x256.size (k0_off10_inb c 0))).write (Elt F) f (act (full X c (nxt c)) (W c)) Finset.univ))
            -∗ Kt ⟨⟩))
      ⊢ run c (k0_part7 xM (Memref.isWhole_whole _) wM (Memref.isWhole_whole _) oM (Memref.isWhole_whole _) gM (Memref.isWhole_whole _)
          fM (Memref.isWhole_whole _) hM (Memref.isWhole_whole _) cc0_scratch3 cc0_scratch4 c v13 v24) Kt := by
  rw [k0_part7_eq_skeleton]; unfold k0_part7_skel run
  simp only [Prog.lift, Prog.bind_op, Prog.bind_ret, Prog.pure_eq_ret]
  iintro ⟨#HR, #Hlev, HO, ⟨Hc3, Ha3⟩, Hv2, Hw, Ho, Hk⟩
  iapply (step_recv X K 3 c [] (by decide) rfl (credit_g 3 (by decide) _)) $$ [HO Hc3 Ha3]
  · isplitr; · iexact HR
    isplitr; · iexact Hlev
    isplitl [HO]; · iexact HO
    isplitl [Hc3]; · iexact Hc3
    iexact Ha3
  iintro ⟨HO, Hz3, Hv3⟩
  ihave Hv3 := (Entails.of_eq (came_3 X c)) $$ Hv3
  ihave Hg := (gPts_halves c (256 * (nxt c).val) (gathered X c)).2 $$ [Hv3 Hv2]
  · isplitl [Hv3]; · iexact Hv3
    iexact Hv2
  iapply (step_load_block X c (nxt c) _ (off9_right c)) $$ Hg; iintro Hg
  iapply (step_load_w c (W c) _) $$ Hw; iintro Hw
  iapply (step_out c f _ _) $$ Ho; iintro Ho
  iapply run_ret
  iapply Hk
  isplitl [HO]; · iexact HO
  isplitl [Hz3]; · iexact Hz3
  isplitl [Hg]; · iexact Hg
  isplitl [Hw]; · iexact Hw
  iexact Ho

theorem part8 (c : Dev nD) (v13 v35 : BitVec 32) (f : Vec F S1024x1024 .bf16) (Kt : FVec F S128x1024 .bf16 → sProp 𝕄) :
    iprop(records X K ∗ levAts L lv ∗ due c (oweFrom c []) ∗ coming (F := F) 4 c ∗ coming (F := F) 5 c ∗ gPts c (rows (256 * (opp c).val) 256) f
        ∗ ((due c (oweFrom c []) ∗ semVal (recvCell 4 c) 0 ∗ semVal (recvCell 5 c) 0 ∗ hPts c Finset.univ (narrowed X (opp c)) ∗ gPts c (rows (256 * (opp c).val) 128) (gathered X c) ∗ gPts c (rows (256 * (opp c).val + 128) 128) f)
            -∗ Kt (k0_pay10 (hM.view.readAt (Elt F) (Rect.unit (s := S2x128x1024) ![1, 0, 0] S1x128x1024.size inb_S2x128x1024_S1x128x1024_1_0_0).toLoadRect (narrowed X (opp c))))))
      ⊢ run c (k0_part8 xM (Memref.isWhole_whole _) wM (Memref.isWhole_whole _) oM (Memref.isWhole_whole _) gM (Memref.isWhole_whole _)
          fM (Memref.isWhole_whole _) hM (Memref.isWhole_whole _) cc0_scratch3 cc0_scratch4 c v13 v35) Kt := by
  rw [k0_part8_eq_skeleton]; unfold k0_part8_skel run
  simp only [Prog.lift, Prog.bind_op, Prog.bind_ret, Prog.pure_eq_ret]
  iintro ⟨#HR, #Hlev, HO, ⟨Hc4, Ha4⟩, ⟨Hc5, Ha5⟩, Hg, Hk⟩
  ihave Hg := (gPts_halves c (256 * (opp c).val) f).1 $$ Hg
  icases Hg with ⟨Hg0, Hg1⟩
  iapply (step_recv X K 4 c [] (by decide) rfl (credit_h 4 (by decide) _)) $$ [HO Hc4 Ha4]
  · isplitr; · iexact HR
    isplitr; · iexact Hlev
    isplitl [HO]; · iexact HO
    isplitl [Hc4]; · iexact Hc4
    iexact Ha4
  iintro ⟨HO, Hz4, Hv4⟩
  ihave Hv4 := (Entails.of_eq (came_4 X c)) $$ Hv4
  iapply (step_recv X K 5 c [] (by decide) rfl (credit_h 5 (by decide) _)) $$ [HO Hc5 Ha5]
  · isplitr; · iexact HR
    isplitr; · iexact Hlev
    isplitl [HO]; · iexact HO
    isplitl [Hc5]; · iexact Hc5
    iexact Ha5
  iintro ⟨HO, Hz5, Hv5⟩
  ihave Hv5 := (Entails.of_eq (came_5 X c)) $$ Hv5
  iapply (step_load_slot c 0 (narrowed X (opp c)) _) $$ Hv4; iintro Hv4
  iapply (step_load_any c (lo := 256 * (opp c).val) _ (off6_top c) f) $$ Hg0; iintro Hg0
  iapply (step_widen X c 0 inb_S2x128x1024_S1x128x1024_0_0_0 _ (off6_top c) (by decide) rfl f) $$ Hg0; iintro Hg0
  iapply (step_load_slot c 1 (narrowed X (opp c)) _) $$ Hv5; iintro Hv5
  iapply (step_load_any c (lo := 256 * (opp c).val + 128) _ (off6_bot c) f) $$ Hg1; iintro Hg1
  ihave Hh := (h_join c (narrowed X (opp c))) $$ [Hv4 Hv5]
  · isplitl [Hv4]; · iexact Hv4
    iexact Hv5
  iapply run_ret
  iapply Hk
  isplitl [HO]; · iexact HO
  isplitl [Hz4]; · iexact Hz4
  isplitl [Hz5]; · iexact Hz5
  isplitl [Hh]; · iexact Hh
  isplitl [Hg0]; · iexact Hg0
  iexact Hg1

theorem part9 (c : Dev nD) (v35 : BitVec 32) (f : Vec F S1024x1024 .bf16) (o : Vec F S1024x256 .f32) (Kt : PUnit → sProp 𝕄) :
    iprop(records X K ∗ due c (oweFrom c []) ∗ gPts c (rows (256 * (opp c).val) 128) (gathered X c) ∗ gPts c (rows (256 * (opp c).val + 128) 128) f ∗ wPts c (W c) ∗ oPts c o ∗ sent (F := F) 0 c ∗ atPos ER (sendCell 0 c) 0 ∅ 0
        ∗ ((due c (oweFrom c []) ∗ gPts c (rows (256 * (opp c).val) 256) (gathered X c) ∗ wPts c (W c) ∗ oPts c ((oM.access (Rect.unit (s := S1024x256) (k0_off10 c 2#32) S256x256.size (k0_off10_inb c 1))).write (Elt F) o (act (full X c (opp c)) (W c)) Finset.univ) ∗ semVal (sendCell 0 c) 0 ∗ sendPay X 0 c)
            -∗ Kt ⟨⟩))
      ⊢ run c (k0_part9 xM (Memref.isWhole_whole _) wM (Memref.isWhole_whole _) oM (Memref.isWhole_whole _) gM (Memref.isWhole_whole _)
          fM (Memref.isWhole_whole _) hM (Memref.isWhole_whole _) cc0_scratch3 cc0_scratch4 c v35 (k0_pay10 (hM.view.readAt (Elt F) (Rect.unit (s := S2x128x1024) ![1, 0, 0] S1x128x1024.size inb_S2x128x1024_S1x128x1024_1_0_0).toLoadRect (narrowed X (opp c))))) Kt := by
  rw [k0_part9_eq_skeleton]; unfold k0_part9_skel run
  simp only [Prog.lift, Prog.bind_op, Prog.bind_ret, Prog.pure_eq_ret]
  iintro ⟨#HR, HO, Hg0, Hg1, Hw, Ho, Hs0, Ha0, Hk⟩
  iapply (step_widen X c 1 inb_S2x128x1024_S1x128x1024_1_0_0 _ (off6_bot c) (by decide) (pay10_eq _) f) $$ Hg1; iintro Hg1
  ihave Hg := (gPts_halves c (256 * (opp c).val) (gathered X c)).2 $$ [Hg0 Hg1]
  · isplitl [Hg0]; · iexact Hg0
    iexact Hg1
  iapply (step_load_block X c (opp c) _ (off9_opp c)) $$ Hg; iintro Hg
  iapply (step_load_w c (W c) _) $$ Hw; iintro Hw
  iapply (step_out c o _ _) $$ Ho; iintro Ho
  iapply (step_left X K 0 c rfl (credit_x 0 (by decide) _)) $$ [HO Hs0 Ha0]
  · isplitr; · iexact HR
    isplitl [HO]; · iexact HO
    isplitl [Hs0]; · iexact Hs0
    iexact Ha0
  iintro ⟨HO, Hz0, Hx0⟩
  iapply run_ret
  iapply Hk
  isplitl [HO]; · iexact HO
  isplitl [Hg]; · iexact Hg
  isplitl [Hw]; · iexact Hw
  isplitl [Ho]; · iexact Ho
  isplitl [Hz0]; · iexact Hz0
  iexact Hx0

end Cert.KernelIdeal.Ring
-- ==== Proof.KernelIdeal.Body.lean ====
/-
The whole kernel on one device: the parts one after the other.
-/
module

public import proofs.«01_k».proof.Proof.KernelIdeal.PartsB

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x1024 .bf16) (W : Dev nD → Vec F S1024x256 .bf16) (K : Dev nD × Fin 13 → ℕ)

/-- Something for each of the six transfers. -/
def each (Φ : Fin 6 → sProp 𝕄) : sProp 𝕄 := bigSep Finset.univ Φ

omit [FloatOps F] in
theorem each_eq (Φ : Fin 6 → sProp 𝕄) : each Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem gAny_eq (c : Dev nD) (S : Finset S1024x1024.Idx) : gAny (F := F) c S = iprop(∃ f : Vec F S1024x1024 .bf16, gPts c S f) := rfl

/-- What device `c` may do in the ring: pay its neighbours' barrier units, wait at its own barrier, and make and wait for
    each transfer. -/
def rights (c : Dev nD) : sProp 𝕄 :=
  iprop(barTok (prv c) true ∗ barTok (nxt c) false ∗ (cred (tallyAt (barCell c) () 2) ∗ atPos ER (barCell c) 0 ∅ 0)
    ∗ each (fun k => toks (F := F) k c) ∗ each (fun k => coming (F := F) k c) ∗ each (fun k => atPos ER (sendCell k c) 0 ∅ 0))

/-- The three buffers of the kernel's own, whatever they hold. -/
def spare (c : Dev nD) : sProp 𝕄 :=
  iprop(gAny (F := F) c Finset.univ ∗ (∃ f : Vec F S2x128x1024 .fp8e4m3, fPts c Finset.univ f) ∗ ∃ f : Vec F S2x128x1024 .fp8e4m3, hPts c Finset.univ f)

/-- The ring's semaphores of device `c`, all at zero. -/
def still (c : Dev nD) : sProp 𝕄 :=
  iprop(semVal (barCell c) 0 ∗ each (fun k => semVal (sendCell k c) 0) ∗ each (fun k => semVal (recvCell k c) 0))

set_option maxHeartbeats 1000000 in
theorem whole_kernel (c : Dev nD) (f : Vec F S1024x256 .f32) (Kt : PUnit → sProp 𝕄) :
    iprop(records X K ∗ levAts L lv ∗ due c (O₀ c) ∗ rights c ∗ spare c ∗ xPts c Finset.univ fullShare (X c) ∗ wPts c (W c) ∗ oPts c f
        ∗ ((due c 0 ∗ still c ∗ spare c ∗ xPts c Finset.univ fullShare (X c) ∗ wPts c (W c) ∗ oPts c (outAt X W c)) -∗ Kt ⟨⟩))
      ⊢ run c (cc0_body xM (Memref.isWhole_whole _) wM (Memref.isWhole_whole _) oM (Memref.isWhole_whole _) gM (Memref.isWhole_whole _)
          fM (Memref.isWhole_whole _) hM (Memref.isWhole_whole _) cc0_scratch3 cc0_scratch4) Kt := by
  rw [cc0_body_eq_skeleton]; unfold cc0_body_skel
  rw [k0_part10_eq_skeleton]; unfold k0_part10_skel
  rw [k0_part1_eq_skeleton]; unfold k0_part1_skel run
  simp only [Prog.lift, Prog.bind_op, Prog.bind_ret, Prog.pure_eq_ret, wp_deviceId, wp_bind]
  unfold rights spare still gAny
  rw [each_eq, each_eq, each_eq, each_eq, each_eq]
  iintro ⟨#HR, #Hlev, HO, ⟨HtP, HtN, HcB, ⟨Ht0, Ht1, Ht2, Ht3, Ht4, Ht5⟩, ⟨Hc0, Hc1, Hc2, Hc3, Hc4, Hc5⟩, ⟨Ha0, Ha1, Ha2, Ha3, Ha4, Ha5⟩⟩,
    ⟨⟨%g, Hg⟩, ⟨%u, Hf⟩, ⟨%h, Hh⟩⟩, Hx, Hw, Ho, Hk⟩
  ihave H := (g_split c g) $$ Hg
  icases H with ⟨Hgc, Hgp, Hgn, Hgo⟩
  ihave H := (f_split c u) $$ Hf
  icases H with ⟨Hf0, Hf1⟩
  ihave H := (h_split c h) $$ Hh
  icases H with ⟨Hh0, Hh1⟩
  ihave H := (x_split X c) $$ Hx
  icases H with ⟨Hx, Hx0, Hx1, Hx2, Hx3⟩
  iapply (part2 X K c _ _ _ _)
  isplitr; · iexact HR
  isplitr; · iexact Hlev
  isplitl [HO]; · iexact HO
  isplitl [HtP]; · iexact HtP
  isplitl [HtN]; · iexact HtN
  isplitl [Hgp Hh0]
  · unfold handed
    isplitl [Hgp]; · iexists g; iexact Hgp
    iexists h; iexact Hh0
  isplitl [Hgn Hh1]
  · unfold handed
    isplitl [Hgn]; · iexists g; iexact Hgn
    iexists h; iexact Hh1
  isplitl [HcB]; · iexact HcB
  isplitl [Ht0]; · iexact Ht0
  isplitl [Hx0]; · iexact Hx0
  iintro ⟨HO, HzB, Hs0, Hr1, Hr2, Hr3, Hr4, Hr5⟩
  iapply (part3 X W K c _ _ _)
  isplitr; · iexact HR
  isplitl [HO]; · iexact HO
  isplitl [Ht2]; · iexact Ht2
  isplitl [Hx2]; · iexact Hx2
  isplitl [Hr2]; · iexact Hr2
  isplitl [Ht1]; · iexact Ht1
  isplitl [Hx1]; · iexact Hx1
  isplitl [Hr1]; · iexact Hr1
  isplitl [Ht3]; · iexact Ht3
  isplitl [Hx3]; · iexact Hx3
  isplitl [Hr3]; · iexact Hr3
  isplitl [Hx]; · iexact Hx
  isplitl [Hw]; · iexact Hw
  iintro ⟨HO, Hs2, Hs1, Hs3, Hx, Hw⟩
  iapply (part4 X W K c _ _ _ f _)
  isplitr; · iexact HR
  isplitr; · iexact Hlev
  isplitl [HO]; · iexact HO
  isplitl [Ho]; · iexact Ho
  isplitl [Hc0]; · iexact Hc0
  isplitl [Hf0]; · iexists u; iexact Hf0
  iintro ⟨HO, Ho, Hz0, Hgp, Hx4⟩
  iapply (part5 X K c _ _ _)
  isplitr; · iexact HR
  isplitr; · iexact Hlev
  isplitl [HO]; · iexact HO
  isplitl [Ht4]; · iexact Ht4
  isplitl [Hx4]; · iexact Hx4
  isplitl [Hr4]; · iexact Hr4
  isplitl [Ht5]; · iexact Ht5
  isplitl [Hr5]; · iexact Hr5
  isplitl [Hc2]; · iexact Hc2
  isplitl [Hf1]; · iexists u; iexact Hf1
  iintro ⟨HO, Hs4, Hs5, Hz2, Hgn⟩
  iapply (part6 X W K c _ _ _ _ _)
  isplitr; · iexact HR
  isplitr; · iexact Hlev
  isplitl [HO]; · iexact HO
  isplitl [Hc1]; · iexact Hc1
  isplitl [Hgp]; · iexact Hgp
  isplitl [Hw]; · iexact Hw
  isplitl [Ho]; · iexact Ho
  iintro ⟨HO, Hz1, Hgp, Hw, Ho⟩
  iapply (part7 X W K c _ _ _ _)
  isplitr; · iexact HR
  isplitr; · iexact Hlev
  isplitl [HO]; · iexact HO
  isplitl [Hc3]; · iexact Hc3
  isplitl [Hgn]; · iexact Hgn
  isplitl [Hw]; · iexact Hw
  isplitl [Ho]; · iexact Ho
  iintro ⟨HO, Hz3, Hgn, Hw, Ho⟩
  iapply (part8 X K c _ _ g _)
  isplitr; · iexact HR
  isplitr; · iexact Hlev
  isplitl [HO]; · iexact HO
  isplitl [Hc4]; · iexact Hc4
  isplitl [Hc5]; · iexact Hc5
  isplitl [Hgo]; · iexact Hgo
  iintro ⟨HO, Hz4, Hz5, Hh, Hgo0, Hgo1⟩
  iapply (part9 X W K c _ g _ _)
  isplitr; · iexact HR
  isplitl [HO]; · iexact HO
  isplitl [Hgo0]; · iexact Hgo0
  isplitl [Hgo1]; · iexact Hgo1
  isplitl [Hw]; · iexact Hw
  isplitl [Ho]; · iexact Ho
  isplitl [Hs0]; · iexact Hs0
  isplitl [Ha0]; · iexact Ha0
  iintro ⟨HO, Hgo, Hw, Ho, Hy0, Hx0⟩
  iapply (step_left X K 1 c rfl (credit_x 1 (by decide) _)) $$ [HO Hs1 Ha1]
  · isplitr; · iexact HR
    isplitl [HO]; · iexact HO
    isplitl [Hs1]; · iexact Hs1
    iexact Ha1
  iintro ⟨HO, Hy1, Hx1⟩
  iapply (step_left X K 2 c rfl (credit_x 2 (by decide) _)) $$ [HO Hs2 Ha2]
  · isplitr; · iexact HR
    isplitl [HO]; · iexact HO
    isplitl [Hs2]; · iexact Hs2
    iexact Ha2
  iintro ⟨HO, Hy2, Hx2⟩
  iapply (step_left X K 3 c rfl (credit_x 3 (by decide) _)) $$ [HO Hs3 Ha3]
  · isplitr; · iexact HR
    isplitl [HO]; · iexact HO
    isplitl [Hs3]; · iexact Hs3
    iexact Ha3
  iintro ⟨HO, Hy3, Hx3⟩
  iapply (step_left X K 4 c rfl (credit_f 4 (by decide) _)) $$ [HO Hs4 Ha4]
  · isplitr; · iexact HR
    isplitl [HO]; · iexact HO
    isplitl [Hs4]; · iexact Hs4
    iexact Ha4
  iintro ⟨HO, Hy4, Hx4⟩
  iapply run_ret
  iapply (step_left X K 5 c rfl (credit_f 5 (by decide) _)) $$ [HO Hs5 Ha5]
  · isplitr; · iexact HR
    isplitl [HO]; · iexact HO
    isplitl [Hs5]; · iexact Hs5
    iexact Ha5
  iintro ⟨HO, Hy5, Hx5⟩
  iapply run_ret
  iapply Hk
  isplitl [HO]; · iexact HO
  isplitl [HzB Hy0 Hy1 Hy2 Hy3 Hy4 Hy5 Hz0 Hz1 Hz2 Hz3 Hz4 Hz5]
  · isplitl [HzB]; · iexact HzB
    isplitl [Hy0 Hy1 Hy2 Hy3 Hy4 Hy5]
    · isplitl [Hy0]; · iexact Hy0
      isplitl [Hy1]; · iexact Hy1
      isplitl [Hy2]; · iexact Hy2
      isplitl [Hy3]; · iexact Hy3
      isplitl [Hy4] <;> iassumption
    · isplitl [Hz0]; · iexact Hz0
      isplitl [Hz1]; · iexact Hz1
      isplitl [Hz2]; · iexact Hz2
      isplitl [Hz3]; · iexact Hz3
      isplitl [Hz4] <;> iassumption
  isplitl [Hgc Hgp Hgn Hgo Hx4 Hx5 Hh]
  · isplitl [Hgc Hgp Hgn Hgo]
    · iapply ((g_join c).trans (Entails.of_eq (gAny_eq c Finset.univ)))
      unfold gAny
      isplitl [Hgc]; · iexists g; iexact Hgc
      isplitl [Hgp]; · iexists _; iexact Hgp
      isplitl [Hgn]; · iexists _; iexact Hgn
      iexists _; iexact Hgo
    isplitl [Hx4 Hx5]
    · ihave Hx4 := (Entails.of_eq (left_4 X c)) $$ Hx4
      ihave Hx5 := (Entails.of_eq (left_5 X c)) $$ Hx5
      iexists (forwarded X c)
      iapply (f_join c (forwarded X c))
      isplitl [Hx4]; · iexact Hx4
      iexact Hx5
    · iexists _; iexact Hh
  isplitl [Hx Hx0 Hx1 Hx2 Hx3]
  · iapply (x_join X c)
    isplitl [Hx]; · iexact Hx
    isplitl [Hx0]; · iexact Hx0
    isplitl [Hx1]; · iexact Hx1
    isplitl [Hx2] <;> iassumption
  isplitl [Hw]; · iexact Hw
  ihave Ho := (Entails.of_eq (congrArg (oPts c) (out_all X W c _ _ _ _ (off2_own c) (off8_left c) (off10_right c) (off10_opp c) f))) $$ Ho
  iexact Ho

end Cert.KernelIdeal.Ring
-- ==== Proof.KernelIdeal.Point.lean ====
/-
The kernel as the launch runs it: what the arrays and the staging buffers hold before and after, and that the kernel takes
the one to the other.
-/
module

public import proofs.«01_k».proof.Proof.KernelIdeal.Body
public import proofs.«01_k».proof.Proof.Gen.KernelIdeal.Points

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s block of `x` at the launch, -/
def xIn (c : Dev nD) : Vec F S256x1024 .bf16 :=
  (win0_0.blk (0 : Fin 1)).view.read (Elt F) ((s₀ m ρ).mem ((c : Thread nD τ).loc main_arg0))
/-- and its block of `w`. -/
def wIn (c : Dev nD) : Vec F S1024x256 .bf16 :=
  (win0_1.blk (0 : Fin 1)).view.read (Elt F) ((s₀ m ρ).mem ((c : Thread nD τ).loc main_arg1))

/-- What the kernel starts from, beside the staging buffers, -/
def before (c : Dev nD) : sProp 𝕄 := iprop(((∃ K, records (xIn m ρ) K) ∗ levAts L lv ∗ rights (F := F) c) ∗ spare c)
/-- and what it ends with. -/
def after (c : Dev nD) : sProp 𝕄 := iprop(still (F := F) c ∗ spare c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => outAt (xIn m ρ) (wIn m ρ) c
  Φ t := match t with
    | ⟨0, _⟩ => before m ρ c
    | ⟨_ + 1, _⟩ => after c
  q _ := fullShare
  owed t := match t with
    | ⟨0, _⟩ => O₀ c
    | ⟨_ + 1, _⟩ => 0

/-- A staging buffer holding `v`. -/
abbrev holds (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

omit [FloatOps F] in
theorem owns_holds (c : Dev nD) (b : Ref sig .tc) (v : b.ty.Contents (Elt F)) :
    (owns (Ix := Unit) (Name := ℕ) (U := UU) (Lvl := ℕ) (c : Thread nD τ) (Memref.whole b) fullShare v : sProp 𝕄) = holds c b v := by
  unfold owns; simp only [Memref.view_whole, View.read_whole, View.set_whole]

omit [FloatOps F] in
theorem windows (Φ : Fin cfg0.W → sProp 𝕄) : bigSep Finset.univ Φ = iprop(Φ (0 : Fin 3) ∗ Φ (1 : Fin 3) ∗ Φ (2 : Fin 3)) := bigSep_W0 Φ

omit [FloatOps F] in
theorem x_whole (c : Dev nD) (f : Vec F S256x1024 .bf16) :
    xPts c Finset.univ fullShare f = (((c : Thread nD τ).loc cc0_stg0_0) ↦{fullShare} f : sProp 𝕄) := rfl
omit [FloatOps F] in
theorem w_whole (c : Dev nD) (f : Vec F S1024x256 .bf16) : wPts c f = (((c : Thread nD τ).loc cc0_stg1_0) ↦{fullShare} f : sProp 𝕄) := rfl
omit [FloatOps F] in
theorem o_whole (c : Dev nD) (f : Vec F S1024x256 .f32) : oPts c f = (((c : Thread nD τ).loc cc0_stg2_0) ↦{fullShare} f : sProp 𝕄) := rfl

/-- The launch's state before its one point, -/
def pointPre (c : Dev nD) : sProp 𝕄 :=
  iprop(before m ρ c ∗ (dats m ρ 0 c).owesAt () t0_0.castSucc
    ∗ (∃ d, holds c cc0_stg0_0 ((dats m ρ 0 c).before (0 : Fin 3) t0_0 d))
    ∗ (∃ d, holds c cc0_stg1_0 ((dats m ρ 0 c).before (1 : Fin 3) t0_0 d))
    ∗ (∃ d, holds c cc0_stg2_0 ((dats m ρ 0 c).before (2 : Fin 3) t0_0 d)))
/-- and after it. -/
def pointPost (c : Dev nD) : sProp 𝕄 :=
  iprop(after c ∗ (dats m ρ 0 c).owesAt () t0_0.succ ∗ holds c cc0_stg0_0 (xIn m ρ c) ∗ holds c cc0_stg1_0 (wIn m ρ c)
    ∗ holds c cc0_stg2_0 (outAt (xIn m ρ) (wIn m ρ) c))

theorem point (c : Dev nD) : pointPre m ρ c ⊢ run c (cc0_body xM (Memref.isWhole_whole _) wM (Memref.isWhole_whole _) oM (Memref.isWhole_whole _)
    gM (Memref.isWhole_whole _) fM (Memref.isWhole_whole _) hM (Memref.isWhole_whole _) cc0_scratch3 cc0_scratch4) (fun _ => pointPost m ρ c) := by
  unfold pointPre before
  iintro ⟨⟨⟨⟨%K, #HR⟩, #Hlev, Hr⟩, Hs⟩, HO, ⟨%d0, %g0, %hg0, Hx⟩, ⟨%d1, %g1, %hg1, Hw⟩, ⟨%d2, %g2, %hg2, Ho⟩⟩
  have hx : g0 = xIn m ρ c := by rw [hg0]; unfold Dat.before; rw [if_pos (fetch0_0 t0_0)]; rfl
  have hw : g1 = wIn m ρ c := by rw [hg1]; unfold Dat.before; rw [if_pos (fetch0_1 t0_0)]; rfl
  subst hx hw
  unfold Dat.owesAt Pipeline.owesWithin
  icases HO with ⟨%V, %hV, HO⟩
  iapply (whole_kernel (xIn m ρ) (wIn m ρ) K c g2 (fun _ => pointPost m ρ c))
  isplitr; · iexact HR
  isplitr; · iexact Hlev
  isplitl [HO]; · unfold due; iexists V; iexact HO
  isplitl [Hr]; · iexact Hr
  isplitl [Hs]; · iexact Hs
  isplitl [Hx]; · iapply (Entails.of_eq (x_whole c (xIn m ρ c)).symm); iexact Hx
  isplitl [Hw]; · iapply (Entails.of_eq (w_whole c (wIn m ρ c)).symm); iexact Hw
  isplitl [Ho]; · iapply (Entails.of_eq (o_whole c g2).symm); iexact Ho
  unfold due
  iintro ⟨⟨%V', HO⟩, Hz, Hs, Hx, Hw, Ho⟩
  ihave Hx := (Entails.of_eq (x_whole c (xIn m ρ c))) $$ Hx
  ihave Hw := (Entails.of_eq (w_whole c (wIn m ρ c))) $$ Hw
  ihave Ho := (Entails.of_eq (o_whole c (outAt (xIn m ρ) (wIn m ρ) c))) $$ Ho
  unfold pointPost after Dat.owesAt Pipeline.owesWithin
  isplitl [Hz Hs]
  · isplitl [Hz]; · iexact Hz
    iexact Hs
  isplitl [HO]
  · iexists V'
    isplitr; · ipureintro; exact fun _ _ => Or.inl trivial
    iexact HO
  isplitl [Hx]
  · iexists _; isplitr; · ipureintro; rfl
    iexact Hx
  isplitl [Hw]
  · iexists _; isplitr; · ipureintro; rfl
    iexact Hw
  iexists _; isplitr; · ipureintro; rfl
  iexact Ho

set_option maxRecDepth 4000 in
/-- The kernel meets what the launch asks of it. -/
theorem obligation (c : Dev nD) : BodyObligation (dats (F := F) m ρ 0 c) (defs₀ (F := F)) 𝒱₀ () Set.univ := fun t => by
  rw [fin_N0 t, windows, windows]
  simp only [owns_holds]
  exact point m ρ c

end Cert.KernelIdeal.Ring
-- ==== Proof.KernelIdeal.Deal.lean ====
/-
How the ring's rights are dealt at the launch: every device's thirteen semaphores become cells of the schedule, and each
right to count at a cell goes to the device that will count there.
-/
module

public import proofs.«01_k».proof.Proof.KernelIdeal.Point

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The thirteen cells and the fourteen rights of a device -/

omit [FloatOps F] in
theorem list13 (Φ : Fin 13 → sProp 𝕄) : bigSep Finset.univ Φ = iprop(Φ 0 ∗ Φ (sIx 0) ∗ Φ (sIx 1) ∗ Φ (sIx 2) ∗ Φ (sIx 3) ∗ Φ (sIx 4) ∗ Φ (sIx 5) ∗ Φ (rIx 0) ∗ Φ (rIx 1) ∗ Φ (rIx 2) ∗ Φ (rIx 3) ∗ Φ (rIx 4) ∗ Φ (rIx 5)) :=
  bigSep_univ_eq_bigSepL [0, sIx 0, sIx 1, sIx 2, sIx 3, sIx 4, sIx 5, rIx 0, rIx 1, rIx 2, rIx 3, rIx 4, rIx 5] (by decide) (by decide) Φ
omit [FloatOps F] in
theorem list14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

omit [FloatOps F] in
/-- Something for each of the thirteen semaphores: the barrier, those that count leaving, those that count arriving. -/
theorem thirteen (Φ : Fin 13 → sProp 𝕄) :
    bigSep Finset.univ Φ ⊣⊢ iprop(Φ 0 ∗ each (fun k => Φ (sIx k)) ∗ each fun k => Φ (rIx k)) := by
  rw [list13, each_eq, each_eq]
  refine ⟨?_, ?_⟩
  · iintro ⟨H, H0, H1, H2, H3, H4, H5, Hr⟩
    isplitl [H]; · iexact H
    isplitl [H0 H1 H2 H3 H4 H5]
    · isplitl [H0]; · iexact H0
      isplitl [H1]; · iexact H1
      isplitl [H2]; · iexact H2
      isplitl [H3]; · iexact H3
      isplitl [H4]; · iexact H4
      iexact H5
    · iexact Hr
  · iintro ⟨H, ⟨H0, H1, H2, H3, H4, H5⟩, Hr⟩
    isplitl [H]; · iexact H
    isplitl [H0]; · iexact H0
    isplitl [H1]; · iexact H1
    isplitl [H2]; · iexact H2
    isplitl [H3]; · iexact H3
    isplitl [H4]; · iexact H4
    isplitl [H5]; · iexact H5
    iexact Hr

omit [FloatOps F] in
/-- The cells by name. -/
theorem by_name (Φ : GSem nD τ sig → sProp 𝕄) (c : Dev nD) :
    (bigSep Finset.univ fun k : Fin 13 => Φ (kcell (c, k)))
      ⊣⊢ iprop(Φ (barCell c) ∗ each (fun k => Φ (sendCell k c)) ∗ each fun k => Φ (recvCell k c)) := by
  have h := thirteen (F := F) fun k => Φ (kcell (c, k))
  simp only [kcell_bar, kcell_send, kcell_recv] at h
  exact h

/-- The cell a right belongs to: the barrier has two, every other cell one. -/
def cellAt (j : Fin 14) : Fin 13 := ⟨j.val - 1, by have := j.isLt; omega⟩
/-- The fourteen rights of the cells of a device. -/
def rightAt (cj : Dev nD × Fin 14) : GSem nD τ sig × ℕ × Bool := (kcell (cj.1, cellAt cj.2), 0, decide (cj.2 = 1))
theorem rightAt_injective : Function.Injective rightAt := by
  rintro ⟨c, j⟩ ⟨c', j'⟩ h
  have h1 : (c, cellAt j) = (c', cellAt j') := kcell_injective (congrArg Prod.fst h)
  have h2 : decide (j = 1) = decide (j' = 1) := congrArg (fun x => x.2.2) h
  have h3 : cellAt j = cellAt j' := congrArg Prod.snd h1
  have h4 : c = c' := congrArg (fun x => x.1) h1
  exact Prod.ext h4 ((by decide : ∀ j j' : Fin 14, decide (j = 1) = decide (j' = 1) → cellAt j = cellAt j' → j = j') j j' h2 h3)

/-- A device's own rights, before they are dealt. -/
def own (c : Dev nD) : sProp 𝕄 :=
  iprop(barTok c false ∗ barTok c true ∗ each (fun k => dutyTok ER (sendCell k c) 0 false) ∗ each fun k => dutyTok ER (recvCell k c) 0 false)

omit [FloatOps F] in
theorem fourteen (c : Dev nD) :
    (bigSep Finset.univ fun j : Fin 14 => (dutyTok ER (rightAt (c, j)).1 (rightAt (c, j)).2.1 (rightAt (c, j)).2.2 : sProp 𝕄)) ⊢ own c := by
  have hs : ∀ k : Fin 6, rightAt (c, ⟨2 + k.val, by have := k.isLt; omega⟩) = (sendCell k c, 0, false) := fun k =>
    congrArg₂ Prod.mk ((congrArg (fun a => kcell (c, a)) ((by decide : ∀ k : Fin 6, cellAt ⟨2 + k.val, by have := k.isLt; omega⟩ = sIx k) k)).trans (kcell_send k c))
      (congrArg (Prod.mk 0) ((by decide : ∀ k : Fin 6, decide ((⟨2 + k.val, by have := k.isLt; omega⟩ : Fin 14) = 1) = false) k))
  have hr : ∀ k : Fin 6, rightAt (c, ⟨8 + k.val, by have := k.isLt; omega⟩) = (recvCell k c, 0, false) := fun k =>
    congrArg₂ Prod.mk ((congrArg (fun a => kcell (c, a)) ((by decide : ∀ k : Fin 6, cellAt ⟨8 + k.val, by have := k.isLt; omega⟩ = rIx k) k)).trans (kcell_recv k c))
      (congrArg (Prod.mk 0) ((by decide : ∀ k : Fin 6, decide ((⟨8 + k.val, by have := k.isLt; omega⟩ : Fin 14) = 1) = false) k))
  have h0 : rightAt (c, 0) = (barCell c, 0, false) := congrArg₂ Prod.mk (kcell_bar c) rfl
  have h1 : rightAt (c, 1) = (barCell c, 0, true) := congrArg₂ Prod.mk (kcell_bar c) rfl
  have s0 := hs 0; have s1 := hs 1; have s2 := hs 2; have s3 := hs 3; have s4 := hs 4; have s5 := hs 5
  have r0 := hr 0; have r1 := hr 1; have r2 := hr 2; have r3 := hr 3; have r4 := hr 4; have r5 := hr 5
  unfold own barTok
  rw [list14, each_eq, each_eq]
  change rightAt (c, 2) = _ at s0; change rightAt (c, 3) = _ at s1; change rightAt (c, 4) = _ at s2
  change rightAt (c, 5) = _ at s3; change rightAt (c, 6) = _ at s4; change rightAt (c, 7) = _ at s5
  change rightAt (c, 8) = _ at r0; change rightAt (c, 9) = _ at r1; change rightAt (c, 10) = _ at r2
  change rightAt (c, 11) = _ at r3; change rightAt (c, 12) = _ at r4; change rightAt (c, 13) = _ at r5
  rw [h0, h1, s0, s1, s2, s3, s4, s5, r0, r1, r2, r3, r4, r5]
  iintro ⟨HB, HC, H0, H1, H2, H3, H4, H5, Hr⟩
  isplitl [HB]; · iexact HB
  isplitl [HC]; · iexact HC
  isplitl [H0 H1 H2 H3 H4 H5]
  · isplitl [H0]; · iexact H0
    isplitl [H1]; · iexact H1
    isplitl [H2]; · iexact H2
    isplitl [H3]; · iexact H3
    isplitl [H4]; · iexact H4
    iexact H5
  · iexact Hr

/-- Where transfer `k` goes, as a permutation of the devices. -/
def turn (k : Fin 6) : Dev nD ≃ Dev nD := ⟨tgt k, src k, fun c => src_tgt k c, fun c => by revert k c; decide⟩

/-- The rights that device `c` will use. -/
def dealt (c : Dev nD) : sProp 𝕄 := iprop(barTok (prv c) true ∗ barTok (nxt c) false ∗ each fun k => toks (F := F) k c)

omit [FloatOps F] in
/-- Every right goes to the device that will use it. -/
theorem deal : (bigSep Finset.univ fun c : Dev nD => (own (F := F) c)) ⊢ bigSep Finset.univ fun c : Dev nD => dealt (F := F) c := by
  have ht : (bigSep Finset.univ fun c : Dev nD => each (fun k => (dutyTok ER (recvCell k c) 0 false : sProp 𝕄)))
      = bigSep Finset.univ fun c : Dev nD => each (fun k => dutyTok ER (recvCell k (tgt k c)) 0 false) := by
    unfold each
    rw [bigSep_univ_comm, bigSep_univ_comm (fun (c : Dev nD) (k : Fin 6) => (dutyTok ER (recvCell k (tgt k c)) 0 false : sProp 𝕄))]
    exact bigSep_congr fun k _ => bigSep_univ_equiv (turn k) (fun c : Dev nD => (dutyTok ER (recvCell k c) 0 false : sProp 𝕄))
  have he : ∀ c : Dev nD, each (fun k => toks (F := F) k c)
      = iprop(each (fun k => (dutyTok ER (sendCell k c) 0 false : sProp 𝕄)) ∗ each fun k => dutyTok ER (recvCell k (tgt k c)) 0 false) := fun c => by
    unfold each toks; rw [bigSep_sep']
  unfold own dealt
  simp only [he]
  rw [bigSep_sep', bigSep_sep', bigSep_sep', bigSep_sep', bigSep_sep', bigSep_sep', ht,
    bigSep_univ_equiv right (fun c : Dev nD => barTok (F := F) c false), bigSep_univ_equiv left (fun c : Dev nD => barTok (F := F) c true)]
  iintro ⟨H1, H2, H3⟩
  isplitl [H2]; · iexact H2
  isplitl [H1]; · iexact H1
  iexact H3

/-! ## What is expected at each cell -/

theorem bar_eq_iff {a b : Dev nD} : Iff (barCell a = barCell b) (a = b) :=
  ⟨fun h => Fin.ext (congrArg (fun g : GSem nD τ sig => g.1.1.val) h), fun h => h ▸ rfl⟩
theorem recv_eq_iff {k k' : Fin 6} {a b : Dev nD} : Iff (recvCell k a = recvCell k' b) (k = k' ∧ a = b) := by
  constructor
  · intro h
    have h' : kcell (a, rIx k) = kcell (b, rIx k') := by rw [kcell_recv, kcell_recv, h]
    have h2 := kcell_injective h'
    exact ⟨(by decide : ∀ k k', rIx k = rIx k' → k = k') k k' (congrArg Prod.snd h2), congrArg Prod.fst h2⟩
  · rintro ⟨rfl, rfl⟩; rfl
theorem recv_ne_bar (k : Fin 6) (a b : Dev nD) : recvCell k a ≠ barCell b := fun h => by cases congrArg Prod.snd h
theorem tgt_eq_iff (k : Fin 6) (c d : Dev nD) : tgt k d = c ↔ d = src k c := by revert k c d; decide

theorem oweFrom_recv (d : Dev nD) (k : Fin 6) (c : Dev nD) : ∀ l : List (Fin 6),
    oweFrom d l (recvCell k c) () = if d = src k c then l.count k * cnt k else 0
  | [] => by rw [List.count_nil, Nat.zero_mul, ite_self]; rfl
  | k' :: l => by
    unfold oweFrom
    rw [Pi.add_apply, Finsupp.add_apply, tallyAt_apply, oweFrom_recv d k c l]
    by_cases hk : k' = k
    · subst hk
      rw [List.count_cons_self]
      by_cases hd : d = src k' c
      · rw [if_pos hd, if_pos hd, if_pos ⟨recv_eq_iff.mpr ⟨rfl, ((tgt_eq_iff k' c d).mpr hd).symm⟩, rfl⟩, Nat.add_mul, Nat.one_mul]
      · rw [if_neg hd, if_neg hd, if_neg fun h : recvCell k' c = recvCell k' (tgt k' d) ∧ () = () => hd ((tgt_eq_iff k' c d).mp (recv_eq_iff.mp h.1).2.symm)]
    · rw [List.count_cons_of_ne hk, if_neg fun h : recvCell k c = recvCell k' (tgt k' d) ∧ () = () => hk (recv_eq_iff.mp h.1).1.symm, Nat.add_zero]
theorem oweFrom_bar (d c : Dev nD) : ∀ l : List (Fin 6), oweFrom d l (barCell c) () = 0
  | [] => rfl
  | k :: l => by
    unfold oweFrom
    rw [Pi.add_apply, Finsupp.add_apply, oweFrom_bar d c l, tallyAt_ne_cell fun h => recv_ne_bar _ _ _ h.symm, Finsupp.zero_apply, Nat.add_zero]

theorem owed_recv (d : Dev nD) (k : Fin 6) (c : Dev nD) : O₀ d (recvCell k c) () = if d = src k c then cnt k else 0 := by
  unfold O₀ O₁
  rw [Pi.add_apply, Finsupp.add_apply, Pi.add_apply, Finsupp.add_apply, tallyAt_ne_cell (recv_ne_bar _ _ _), tallyAt_ne_cell (recv_ne_bar _ _ _),
    Finsupp.zero_apply, Nat.add_zero, Nat.add_zero, oweFrom_recv, (by decide : ∀ k, order.count k = 1) k, Nat.one_mul]
theorem owed_bar (d c : Dev nD) : O₀ d (barCell c) () = (if d = prv c then 1 else 0) + (if d = nxt c then 1 else 0) := by
  unfold O₀ O₁
  rw [Pi.add_apply, Finsupp.add_apply, Pi.add_apply, Finsupp.add_apply, oweFrom_bar, Nat.zero_add, tallyAt_apply, tallyAt_apply]
  have h1 : (barCell c = barCell (nxt d) ∧ () = ()) ↔ d = prv c :=
    ⟨fun h => by rw [bar_eq_iff.mp h.1, prv_nxt], fun h => ⟨by rw [h, nxt_prv], rfl⟩⟩
  have h2 : (barCell c = barCell (prv d) ∧ () = ()) ↔ d = nxt c :=
    ⟨fun h => by rw [bar_eq_iff.mp h.1, nxt_prv], fun h => ⟨by rw [h, prv_nxt], rfl⟩⟩
  rw [if_congr h1 rfl rfl, if_congr h2 rfl rfl]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (k : Fin 6) (c : Dev nD) :
    tallyOn (recvCell k c) (launchCredit (Pipeline.owing O₀) 0 (recvCell k c)) = (tallyAt (recvCell k c) () (cnt k) : CellTallies nD τ sig Unit) := by
  unfold tallyAt; refine congrArg _ (Finsupp.ext fun u => ?_); cases u
  rw [Pipeline.launchCredit_owing, Finsupp.single_eq_same, Finset.sum_congr rfl fun d _ => owed_recv d k c,
    Finset.sum_ite_eq' Finset.univ (src k c) fun _ => cnt k, if_pos (Finset.mem_univ _)]

omit [FloatOps F] in
/-- Of all that the devices owe, a device may expect two barrier units and six transfers. -/
theorem creds (c : Dev nD) :
    (Pipeline.launchCred O₀ c : sProp 𝕄) ⊢ iprop(cred (tallyAt (barCell c) () 2) ∗ each fun k => cred (tallyAt (recvCell k c) () (cnt k))) := by
  unfold Pipeline.launchCred each
  rw [bigSep_univ_at _ (SemLoc.reg barS), launch_bar]
  refine BI.sep_mono (BI.Entails.refl _) ?_
  have hi : Set.InjOn (fun k : Fin 6 => (SemLoc.dma (recvS k) : SemLoc sig)) (Finset.univ : Finset (Fin 6)) := fun a _ b _ h => by
    revert h; revert a b; decide
  have hs : (Finset.univ.image fun k : Fin 6 => (SemLoc.dma (recvS k) : SemLoc sig)) ⊆ Finset.univ.erase (SemLoc.reg barS) := fun sm h => by
    obtain ⟨k, -, rfl⟩ := Finset.mem_image.mp h
    exact Finset.mem_erase.mpr ⟨fun h => (by cases h), Finset.mem_univ _⟩
  refine (bigSep_subset hs).trans ?_
  rw [bigSep_image_of_injOn hi]
  exact bigSep_mono fun k _ => Entails.of_eq (congrArg cred (launch_recv k c))

end Cert.KernelIdeal.Ring
-- ==== Proof.KernelIdeal.Launch.lean ====
/-
The run of the whole program: the launch deals the ring's rights, every device runs the kernel, and at the end each result
array holds that device's block of the result, the operands hold what they held, and every semaphore is at zero.
-/
module

public import proofs.«01_k».proof.Proof.KernelIdeal.Deal
public import proofs.«01_k».proof.Proof.Gen.KernelIdeal.Frame
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The twelve DMA semaphores of the ring: the kernel's own. -/
abbrev osem (k : Fin 12) : SemLoc sig := csem k.succ
theorem ownSemFacts : Pipeline.OwnSemFacts cfg0.spec osem := by decide

omit [FloatOps F] in
theorem ownSems_eq (c : Dev nD) : (Pipeline.ownSems0 (Ix := Unit) (Name := ℕ) (U := UU) (Lvl := ℕ) (Val := Elt F) (τ := τ) osem c : sProp 𝕄)
    = bigSep (Finset.univ.erase (0 : Fin 13)) fun k => semVal (kcell (c, k)) 0 := by
  unfold Pipeline.ownSems0
  rw [show (Finset.univ.erase (0 : Fin 13)) = Finset.univ.map (Fin.succEmb 12) from by decide, bigSep_map]
  rfl
omit [FloatOps F] in
theorem unscopedSems_eq (c : Dev nD) : (unscopedSems0 c : sProp 𝕄) = semVal (kcell (c, 0)) 0 := by
  unfold unscopedSems0; rw [bigSep_eq_bigSepL_of_eq [SemLoc.reg barS] (by decide) (by decide), kcell_bar]; rfl

omit [FloatOps F] in
theorem all_sems (c : Dev nD) : (bigSep Finset.univ fun k : Fin 13 => (semVal (kcell (c, k)) 0 : sProp 𝕄))
    = iprop(unscopedSems0 c ∗ Pipeline.ownSems0 (Ix := Unit) (Name := ℕ) (U := UU) (Lvl := ℕ) (Val := Elt F) (τ := τ) osem c) := by
  rw [ownSems_eq, unscopedSems_eq]; exact bigSep_univ_at _ (0 : Fin 13)

/-! ## The ghost state of the launch -/

def ringCells : Finset (GSem nD τ sig) := Finset.univ.map ⟨kcell, kcell_injective⟩
def ringToks : Finset (GSem nD τ sig × ℕ × Bool) := Finset.univ.map ⟨rightAt, rightAt_injective⟩
def u₀ : UU := (initOf (Pipeline.cells cfgs cellOf_inj) (Pipeline.launchToks cfgs cellOf_inj), initOf ringCells ringToks)

/-- What the launch gives device `c` of each of its cells, -/
def G (c : Dev nD) : sProp 𝕄 :=
  iprop((bigSep Finset.univ fun k : Fin 13 => roundState ER (Rd (xIn m ρ)) (kcell (c, k)) 0)
    ∗ (bigSep Finset.univ fun k : Fin 13 => atPos ER (kcell (c, k)) 0 ∅ 0)
    ∗ (bigSep Finset.univ fun k : Fin 13 => reached ER (kcell (c, k)) 0) ∗ own c)
/-- and what device `c` has once the cells are set up and the rights dealt. -/
def G' (c : Dev nD) : sProp 𝕄 :=
  iprop((∃ K, records (xIn m ρ) K) ∗ (bigSep Finset.univ fun k : Fin 13 => atPos ER (kcell (c, k)) 0 ∅ 0) ∗ dealt c)

theorem fund : BI.own (ER (initOf ringCells ringToks)) ⊢ (|==> bigSep Finset.univ (G m ρ) : sProp 𝕄) := by
  have hc (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have ht : bigSep ringToks (fun x => (dutyTok ER x.1 x.2.1 x.2.2 : sProp 𝕄)) ⊢ bigSep Finset.univ fun c : Dev nD => own (F := F) c := by
    unfold ringToks; rw [bigSep_map, bigSep_univ_prod]
    exact bigSep_mono fun c _ => fourteen (F := F) c
  iintro H
  imod (Rounds.fund ER (Rd (xIn m ρ)) ringCells ringToks) $$ H with ⟨Hs, Hr, Ha, Ht⟩
  imodintro
  ihave Hs := (Entails.of_eq (hc fun g => roundState ER (Rd (xIn m ρ)) g 0)) $$ Hs
  ihave Ha := (Entails.of_eq (hc fun g => atPos ER g 0 ∅ 0)) $$ Ha
  ihave Hr := (Entails.of_eq (hc fun g => reached ER g 0)) $$ Hr
  ihave Ht := ht $$ Ht
  unfold G
  rw [bigSep_sep', bigSep_sep', bigSep_sep']
  isplitl [Hs]; · iexact Hs
  isplitl [Ha]; · iexact Ha
  isplitl [Hr]; · iexact Hr
  iexact Ht

/-- Setting up one device's cells. -/
theorem set_up (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 13 => iprop(∃ κ : ℕ, cellInv ER (Rd (xIn m ρ)) κ (kcell (c, k))))
          ∗ (bigSep Finset.univ fun k : Fin 13 => atPos ER (kcell (c, k)) 0 ∅ 0)
          ∗ (bigSep Finset.univ fun k : Fin 13 => reached ER (kcell (c, k)) 0) ∗ own c) := by
  have hinv : iprop((bigSep Finset.univ fun k : Fin 13 => semVal (kcell (c, k)) 0) ∗ bigSep Finset.univ fun k : Fin 13 => roundState ER (Rd (xIn m ρ)) (kcell (c, k)) 0)
      ⊢ (|={Set.univ}=> bigSep Finset.univ fun k : Fin 13 => iprop(∃ κ : ℕ, cellInv ER (Rd (xIn m ρ)) κ (kcell (c, k))) : sProp 𝕄) := by
    rw [← bigSep_sep']
    exact (bigSep_mono fun k _ => (Rounds.body_intro ER (Rd (xIn m ρ)) (kcell (c, k))).trans inv_alloc).trans (bigSep_fupd _ _)
  unfold G
  iintro ⟨Ho, Hu, Hs, Ha, Hr, Ht⟩
  imod (hinv) $$ [Ho Hu Hs] with Hi
  · isplitl [Ho Hu]
    · iapply (Entails.of_eq (all_sems (F := F) c).symm)
      isplitl [Hu]; · iexact Hu
      iexact Ho
    · iexact Hs
  imodintro
  isplitl [Hi]; · iexact Hi
  isplitl [Ha]; · iexact Ha
  isplitl [Hr]; · iexact Hr
  iexact Ht

/-- Sharing the records and dealing the rights. -/
theorem share_out :
    (bigSep Finset.univ fun c : Dev nD => iprop((bigSep Finset.univ fun k : Fin 13 => iprop(∃ κ : ℕ, cellInv ER (Rd (xIn m ρ)) κ (kcell (c, k))))
          ∗ (bigSep Finset.univ fun k : Fin 13 => atPos ER (kcell (c, k)) 0 ∅ 0)
          ∗ (bigSep Finset.univ fun k : Fin 13 => reached ER (kcell (c, k)) 0) ∗ own c) : sProp 𝕄)
      ⊢ bigSep Finset.univ (G' m ρ) := by
  rw [bigSep_sep', bigSep_sep', bigSep_sep', ← bigSep_univ_prod (fun ck : Dev nD × Fin 13 => iprop(∃ κ : ℕ, cellInv ER (Rd (xIn m ρ)) κ (kcell ck))),
    ← bigSep_univ_prod (fun ck : Dev nD × Fin 13 => (reached ER (kcell ck) 0 : sProp 𝕄))]
  iintro ⟨Hi, Ha, Hr, Ht⟩
  ihave HK := (BI.bigSep_exists_pi Finset.univ (fun (ck : Dev nD × Fin 13) (κ : ℕ) => (cellInv ER (Rd (xIn m ρ)) κ (kcell ck) : sProp 𝕄))) $$ Hi
  icases HK with ⟨%K, Hi⟩
  ihave Ht := (deal (F := F)) $$ Ht
  iapply (bigSep_with_persistent (R := records (xIn m ρ) K)
    (Φ := fun c : Dev nD => iprop((bigSep Finset.univ fun k : Fin 13 => atPos ER (kcell (c, k)) 0 ∅ 0) ∗ dealt (F := F) c)) fun c _ => by
      unfold G'
      iintro ⟨HR, Ha, Ht⟩
      isplitl [HR]; · iexists K; iexact HR
      isplitl [Ha]; · iexact Ha
      iexact Ht)
  isplitl [Hi Hr]
  · unfold records
    isplitl [Hi]; · iexact Hi
    iexact Hr
  · rw [bigSep_sep']
    isplitl [Ha]; · iexact Ha
    iexact Ht

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => set_up m ρ c).trans (bigSep_fupd _ _)).trans (BI.fupd_mono (share_out m ρ))

/-! ## Into the kernel and out of it -/

/-- What a device brings to the kernel. -/
def start (c : Dev nD) : sProp 𝕄 := iprop((∃ K, records (xIn m ρ) K) ∗ levAts L lv ∗ rights (F := F) c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have ha := (by_name (F := F) (fun g => atPos ER g 0 ∅ 0) c).1
  have hcome : each (fun k => coming (F := F) k c)
      = iprop(each (fun k => (cred (tallyAt (recvCell k c) () (cnt k)) : sProp 𝕄)) ∗ each fun k => atPos ER (recvCell k c) 0 ∅ 0) := by
    unfold each; rw [bigSep_sep']
  unfold G' dealt
  iintro ⟨-, Hlev, Hcr, -, HR, Ha, HtP, HtN, Ht⟩
  ihave Hc := (creds (F := F) c) $$ Hcr
  icases Hc with ⟨HcB, Hc⟩
  ihave Ha := ha $$ Ha
  icases Ha with ⟨HaB, HaS, HaR⟩
  imodintro
  unfold start rights
  rw [hcome]
  isplitl
  · isplitl [HR]; · iexact HR
    isplitl [Hlev]; · iexact Hlev
    isplitl [HtP]; · iexact HtP
    isplitl [HtN]; · iexact HtN
    isplitl [HcB HaB]
    · isplitl [HcB]; · iexact HcB
      iexact HaB
    isplitl [Ht]; · iexact Ht
    isplitl [Hc HaR]
    · isplitl [Hc]; · iexact Hc
      iexact HaR
    iexact HaS
  · iempintro

theorem spare_eq (c : Dev nD) : (Pipeline.scopedRest cfg0.spec c : sProp 𝕄) = spare (F := F) c :=
  scopedRest0_eq c

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, spare_eq]
  unfold before start
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  have hs : still (F := F) c ⊢ iprop(unscopedSems0 c ∗ Pipeline.ownSems0 (Ix := Unit) (Name := ℕ) (U := UU) (Lvl := ℕ) (Val := Elt F) (τ := τ) osem c) := by
    unfold still
    exact ((by_name (F := F) (fun g => semVal g 0) c).2).trans (Entails.of_eq (all_sems c))
  rw [show (dats m ρ 0 c).Φ (Fin.last cfg0.N) = after c from rfl, spare_eq]
  unfold after
  iintro ⟨Hz, Hr⟩
  ihave Hz := hs $$ Hz
  icases Hz with ⟨Hu, Ho⟩
  isplitl [Hu]; · iexact Hu
  isplitl [Ho]; · iexact Ho
  iexact Hr

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
theorem run_arrays : θ_run defs (onTc (τ := τ) (main (F := F))) (s₀ m ρ)
    (fun r => (∀ c : Dev nD, ∀ w : Fin cfg0.W, r.2.mem ((cfg0.win w).arr.view.loc (c : Thread nD τ)) = (dats m ρ 0 c).arrAt w cfg0.N)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring
-- ==== Proof.KernelIdeal.Run.lean ====
/-
The kernel's run read at its arrays: the two arguments are as they were, and each device's result is `outAt` of the devices'
blocks of the arguments.
-/
module

public import proofs.«01_k».proof.Proof.KernelIdeal.Launch
public import Idealize.ShloMosaic.Lib.Pipeline.ValueKit.Geometry

@[expose] public section

noncomputable section

namespace Cert.KernelIdeal.Ring

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- Device `c`'s block of `x`, as its memory has it at the launch, -/
def xOf (c : Dev nD) : Vec F S256x1024 .bf16 := m ((c : Thread nD τ).loc main_arg0)
/-- and its block of `w`. -/
def wOf (c : Dev nD) : Vec F S1024x256 .bf16 := m ((c : Thread nD τ).loc main_arg1)

theorem same_index {s : Shape} {i j : s.Idx} (h : ∀ a, (i a).val = (j a).val) : i = j := funext fun a => Fin.ext (h a)

/-- The kernel's one block of `x` is the device's whole block of the argument, -/
theorem xIn_eq : xIn m ρ = xOf m := funext fun c => funext fun j =>
  congrArg (xOf m c) (same_index fun a => by
    match a with
    | ⟨0, _⟩ => exact Pipeline.Window.rect_emb_val_of_index_zero win0_0 (0 : Fin 1) 0 (by decide +kernel) j
    | ⟨1, _⟩ => exact Pipeline.Window.rect_emb_val_of_index_zero win0_0 (0 : Fin 1) 1 (by decide +kernel) j)

/-- and so of `w`. -/
theorem wIn_eq : wIn m ρ = wOf m := funext fun c => funext fun j =>
  congrArg (wOf m c) (same_index fun a => by
    match a with
    | ⟨0, _⟩ => exact Pipeline.Window.rect_emb_val_of_index_zero win0_1 (0 : Fin 1) 0 (by decide +kernel) j
    | ⟨1, _⟩ => exact Pipeline.Window.rect_emb_val_of_index_zero win0_1 (0 : Fin 1) 1 (by decide +kernel) j)

theorem x_kept (c : Dev nD) : (dats m ρ 0 c).arrAt (0 : Fin 3) cfg0.N = m ((c : Thread nD τ).loc main_arg0) :=
  (dats m ρ 0 c).arrAt_in (0 : Fin 3) rfl _
theorem w_kept (c : Dev nD) : (dats m ρ 0 c).arrAt (1 : Fin 3) cfg0.N = m ((c : Thread nD τ).loc main_arg1) :=
  (dats m ρ 0 c).arrAt_in (1 : Fin 3) rfl _

/-- The result's one block is the whole of it. -/
theorem result (c : Dev nD) : (dats m ρ 0 c).arrAt (2 : Fin 3) cfg0.N = outAt (xOf m) (wOf m) c := by
  rw [← xIn_eq m ρ, ← wIn_eq m ρ]
  exact (dats m ρ 0 c).arrAt_eq_of_after_last 2 t0_0 (by decide +kernel)
    (outAt (xIn m ρ) (wIn m ρ) c) (fun j => rfl)

theorem run_result : θ_run defs (onTc (τ := τ) (main (F := F))) (s₀ m ρ) (fun r =>
    (∀ c : Dev nD, r.2.mem ((c : Thread nD τ).loc main_v1) = outAt (xOf m) (wOf m) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c (2 : Fin 3)).trans (result m ρ c),
    (h.1 c (0 : Fin 3)).trans (x_kept m ρ c), (h.1 c (1 : Fin 3)).trans (w_kept m ρ c)⟩, h.2⟩) (run_arrays m ρ)

end Cert.KernelIdeal.Ring
-- ==== Proof.Value.Gelu.lean ====
/-
The mathematics, over the extended reals: the gated tanh of a number, an entry of a product of two matrices, and the two put
together, an entry of the result.
-/
module

public import Idealize.ShloMosaic.PureOps.Ideal
public import Idealize.ShloMosaic.Lib.ValueIdx

@[expose] public section

noncomputable section

namespace Cert.Math

open Idealize.ShloMosaic Idealize.ShloMosaic.ValueIdx

/-- An `n` by `k` matrix of extended reals. -/
abbrev Matrix (n k : ℕ) : Type := (⟨2, ![n, k]⟩ : Shape).Idx → EReal

/-- `y / 2 · (1 + tanh (c · (y + a · y³)))`, with the binary32 values of `a = 0.044715` and `c = √(2/π)`. -/
def gelu (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * (y * y * y))))

/-- The cube's factors may as well be multiplied in one after the other. -/
theorem gelu_one_by_one (y : EReal) :
    Ideal.ofBits .f32 0x3F000000#32 * y
      * (Ideal.ofBits .f32 0x3F800000#32
        + Ideal.tanh (Ideal.ofBits .f32 0x3F4C422A#32 * (y + Ideal.ofBits .f32 0x3D372713#32 * y * y * y)))
      = gelu y := by
  unfold gelu
  rw [mul_assoc (Ideal.ofBits .f32 0x3D372713#32 * y), mul_assoc (Ideal.ofBits .f32 0x3D372713#32), ← mul_assoc y]

/-- Entry `(r, l)` of `x · w`. -/
def entry {n k p : ℕ} (x : Matrix n k) (w : Matrix k p) (r : Fin n) (l : Fin p) : EReal :=
  ∑ q : Fin k, x (ix2 r q) * w (ix2 q l)

/-- The gated tanh of `x · w`, entry by entry. -/
def layer {n k p : ℕ} (x : Matrix n k) (w : Matrix k p) : Matrix n p := fun i => gelu (entry x w (i 0) (i 1))

end Cert.Math
-- ==== Proof.Value.Device.lean ====
/-
What one device's block of the result is, over the extended reals: there a change of format changes nothing, so the block that
was passed on in the narrow format is the block itself, and each stored block is the gated tanh of a product.
-/
module

public import proofs.«01_k».proof.Proof.KernelIdeal.Contents
public import proofs.«01_k».proof.Proof.Value.Gelu
public import Idealize.ShloMosaic.Lib.MatmulPlain

@[expose] public section

noncomputable section

namespace Cert.KernelIdeal.Ring

open Cert.KernelIdeal Cert.KernelIdeal.Gen
open Idealize.ShloMosaic Idealize.ShloMosaic.ValueIdx Cert.Math

theorem full_ideal (X : Dev nD → Vec Ideal S256x1024 .bf16) (c d : Dev nD) : full X c d = X d := by
  funext j
  unfold full
  exact ite_self (X d j)

theorem product (x : Vec Ideal S256x1024 .bf16) (w : Vec Ideal S1024x256 .bf16) (r l : Fin 256) :
    matmul (φ₁ := .bf16) (φ₂ := .bf16) dot_S256x1024_S1024x256_S256x256_1_0_0_1_n_n none x w (constant (F := Ideal) S256x256 .f32 0x00000000#32) (ix2 r l)
      = entry x w r l := by
  refine (Ideal.matmul_plain_apply (M := 256) (K := 1024) (N := 256) none x w _ r l).trans ?_
  show Ideal.ofBits .f32 0x00000000#32 + _ = _
  rw [Ideal.ofBits_zero_f32, zero_add]
  rfl

theorem act_ideal (x : Vec Ideal S256x1024 .bf16) (w : Vec Ideal S1024x256 .bf16) (r l : Fin 256) :
    act x w (ix2 r l) = gelu (entry x w r l) := by
  rw [← gelu_one_by_one, ← product]
  unfold act k0_pay7
  rw [shapeCast_self]
  rfl

/-- Row `i` of device `c`'s block of the result comes from the row `i` of `x`, held by its owner, and from the device's
columns of `w`. -/
theorem outAt_ideal (X : Dev nD → Vec Ideal S256x1024 .bf16) (W : Dev nD → Vec Ideal S1024x256 .bf16) (c : Dev nD)
    (r : Fin 1024) (l : Fin 256) :
    outAt X W c (ix2 r l)
      = gelu (entry (X ⟨r.val / 256, by show _ < 4; omega⟩) (W c) ⟨r.val % 256, Nat.mod_lt _ (by decide)⟩ l) := by
  unfold outAt
  rw [full_ideal]
  exact act_ideal _ _ _ _

end Cert.KernelIdeal.Ring
-- ==== Proof.Value.Whole.lean ====
/-
The equation between the two: when the devices hold the row blocks of `x` and the column blocks of `w`, each device's result is
its column block of the gated tanh of `x · w`.
-/
module

public import proofs.«01_k».proof.Proof.Value.Device
public import Idealize.ShloMosaic.Lib.Layout

@[expose] public section

noncomputable section

namespace Cert.KernelIdeal.Ring

open Cert.KernelIdeal Cert.KernelIdeal.Gen
open Idealize.ShloMosaic Idealize.ShloMosaic.ValueIdx Cert.Math

/-- The row blocks of `x`, -/
abbrev rowBlock (x : Matrix 1024 1024) (c : Dev nD) : Vec Ideal S256x1024 .bf16 :=
  Layout.block (⟨2, ![256, 1024]⟩ : Shape) (⟨2, ![1024, 1024]⟩ : Shape) 0 4 c x
/-- and the column blocks of `w`. -/
abbrev colBlock (w : Matrix 1024 1024) (c : Dev nD) : Matrix 1024 256 :=
  Layout.block (⟨2, ![1024, 256]⟩ : Shape) (⟨2, ![1024, 1024]⟩ : Shape) 1 4 c w

theorem rowBlock_apply (x : Matrix 1024 1024) (r q : Fin 1024) :
    rowBlock x ⟨r.val / 256, by show _ < 4; omega⟩ (ix2 ⟨r.val % 256, Nat.mod_lt _ (by decide)⟩ q) = x (ix2 r q) := by
  refine congrArg x (funext fun a => Fin.ext ?_)
  match a with
  | ⟨0, _⟩ => show r.val / 256 * 256 + r.val % 256 = r.val; omega
  | ⟨1, _⟩ => rfl

theorem colBlock_apply (w : Matrix 1024 1024) (c : Dev nD) (q : Fin 1024) (l : Fin 256) :
    colBlock w c (ix2 q l) = w (ix2 q ⟨c.val * 256 + l.val, by have h : c.val < 4 := c.isLt; omega⟩) := by
  refine congrArg w (funext fun a => Fin.ext ?_)
  match a with
  | ⟨0, _⟩ => rfl
  | ⟨1, _⟩ => rfl

/-- An entry of the product needs only the row's block and the column's. -/
theorem entry_blocks (x w : Matrix 1024 1024) (c : Dev nD) (r : Fin 1024) (l : Fin 256) :
    entry (rowBlock x ⟨r.val / 256, by show _ < 4; omega⟩) (colBlock w c) ⟨r.val % 256, Nat.mod_lt _ (by decide)⟩ l
      = entry x w r ⟨c.val * 256 + l.val, by have h : c.val < 4 := c.isLt; omega⟩ :=
  Finset.sum_congr rfl fun q _ => congrArg₂ (· * ·) (rowBlock_apply x r q) (colBlock_apply w c q l)

theorem outAt_layer (x w : Matrix 1024 1024) (c : Dev nD) :
    outAt (F := Ideal) (rowBlock x) (colBlock w) c = colBlock (layer x w) c := by
  funext i
  obtain ⟨r, l, rfl⟩ : ∃ (r : Fin 1024) (l : Fin 256), i = ix2 r l := ⟨i 0, i 1, eq_ix2 i⟩
  rw [outAt_ideal, entry_blocks, colBlock_apply]
  rfl

end Cert.KernelIdeal.Ring
-- ==== Proof.Value.Reference.lean ====
/-
What the reference computes, over the extended reals: the gated tanh of the whole product.
-/
module

public import proofs.«01_k».proof.Proof.Gen.ReferenceIdeal.Run
public import proofs.«01_k».proof.Proof.Value.Gelu
public import Idealize.ShloMosaic.Lib.StackMember

@[expose] public section

noncomputable section

namespace Cert.ReferenceIdeal.Value

open Cert.ReferenceIdeal Cert.ReferenceIdeal.Gen
open Idealize.ShloMosaic Idealize.ShloMosaic.TcCoe Idealize.ShloMosaic.ValueIdx Idealize.SL.Sem Cert.Math

theorem product (x w : FVec Ideal S1024x1024 .bf16) :
    Host.dotGeneral dot_S1024x1024_S1024x1024_S1024x1024_1_0_0_1_n_n none x w = fun i : S1024x1024.Idx => entry x w (i 0) (i 1) := by
  funext i
  obtain ⟨r, l, rfl⟩ : ∃ (r l : Fin 1024), i = ix2 r l := ⟨i 0, i 1, eq_ix2 i⟩
  exact StackMember.dotGeneral_plain_apply (m := 1024) (n := 1024) (k := 1024) none x w r l

/-- The reference ends with the gated tanh of the product of its arguments, which it leaves as they were. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
          = layer (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run m ρ)
  rw [product]
  rfl

end Cert.ReferenceIdeal.Value
-- ==== Proof.Claims.lean ====
/-
The claims, one theorem each.
-/
module

public import proofs.«01_k».proof.Defs
public import proofs.«01_k».proof.Proof.Kernel.Run
public import proofs.«01_k».proof.Proof.KernelIdeal.Run
public import proofs.«01_k».proof.Proof.Value.Whole
public import proofs.«01_k».proof.Proof.Value.Reference

@[expose] public section

noncomputable section

namespace Cert.Proof

open Idealize.ShloMosaic Idealize.ShloMosaic.TcCoe Idealize.SL.Sem

/-- The kernel ends, its arguments as they were and every counter at zero, -/
theorem kernel_ends : Cert.quiescent_Kernel (hKernel := Cert.Kernel.Gen.facts) := fun m ρ _ =>
  (θ_run Cert.Kernel.defs _ _).mono (fun _ h => ⟨fun c => (h.1 c).2, h.2⟩) (Cert.Kernel.Ring.run_result (F := Bits) m ρ)

/-- and so over the extended reals, -/
theorem ideal_ends : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Ring.run_result (F := Ideal) m ρ)

/-- and so does the reference. -/
theorem reference_ends : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run_layer m ρ)

/-- The kernel's blocks of the result are the blocks of the reference's. -/
theorem same_result : Cert.algebraic_KernelIdeal_ReferenceIdeal
    (hKernelIdeal := Cert.KernelIdeal.Gen.facts) (hReferenceIdeal := Cert.ReferenceIdeal.Gen.facts) := by
  intro m ρ m' ρ' _ hagree
  refine ⟨Cert.Math.layer
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono (fun _ h c => ⟨(h.1 c).1.trans ?_, (h.1 c).2⟩)
      (Cert.KernelIdeal.Ring.run_result (F := Ideal) m ρ),
    (θ_run Cert.ReferenceIdeal.defs _ _).mono (fun _ h => h 0) (Cert.ReferenceIdeal.Value.run_layer m' ρ')⟩
  have hx : Cert.KernelIdeal.Ring.xOf m = Cert.KernelIdeal.Ring.rowBlock _ := funext fun d => (hagree d).1
  have hw : Cert.KernelIdeal.Ring.wOf m = Cert.KernelIdeal.Ring.colBlock _ := funext fun d => (hagree d).2
  rw [hx, hw]
  exact Cert.KernelIdeal.Ring.outAt_layer _ _ c

end Cert.Proof
-- ==== Proof.lean ====
/-
The claims of the certificate, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  kernel_ends, ideal_ends, reference_ends, trivial, same_result⟩

end Cert.Proof

end
